-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positions_drawn [hPre_positions_drawn : Cert.Pre_positions_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_positions_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positions_drawn [hPre_positions_drawn : Cert.Pre_positions_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positions_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_positions_drawn [hKernelIdeal : Cert.KernelIdeal.Facts] [hPre_positions_drawn : Cert.Pre_positions_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positions_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_positions_drawn [hReferenceIdeal : Cert.ReferenceIdeal.Facts] [hPre_positions_drawn : Cert.Pre_positions_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positions_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_positions_drawn [hKernelIdeal : Cert.KernelIdeal.Facts] [hReferenceIdeal : Cert.ReferenceIdeal.Facts] [hPre_positions_drawn : Cert.Pre_positions_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positions_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v129) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_positions_drawn : Cert.Pre_positions_drawn.Facts),
    quiescent_Kernel (hKernel := hKernel)
    ∧ quiescent_KernelIdeal (hKernelIdeal := hKernelIdeal)
    ∧ quiescent_KernelIdeal_pre_positions_drawn (hKernelIdeal := hKernelIdeal) (hPre_positions_drawn := hPre_positions_drawn)
    ∧ quiescent_ReferenceIdeal (hReferenceIdeal := hReferenceIdeal)
    ∧ quiescent_ReferenceIdeal_pre_positions_drawn (hReferenceIdeal := hReferenceIdeal) (hPre_positions_drawn := hPre_positions_drawn)
    ∧ preserves_Kernel_KernelIdeal
    ∧ algebraic_KernelIdeal_ReferenceIdeal_pre_positions_drawn (hKernelIdeal := hKernelIdeal) (hReferenceIdeal := hReferenceIdeal) (hPre_positions_drawn := hPre_positions_drawn)
-- ==== Pre_positions_drawn.lean ====
abbrev S32x16x256 : Shape := ⟨3, ![32, 16, 256]⟩
abbrev S32x16x512 : Shape := ⟨3, ![32, 16, 512]⟩
abbrev S16x512x512 : Shape := ⟨3, ![16, 512, 512]⟩
abbrev S16x256x512 : Shape := ⟨3, ![16, 256, 512]⟩
abbrev S16x1x512 : Shape := ⟨3, ![16, 1, 512]⟩
abbrev S16x512x256 : Shape := ⟨3, ![16, 512, 256]⟩
abbrev S16x1x1 : Shape := ⟨3, ![16, 1, 1]⟩
abbrev S16x256x1 : Shape := ⟨3, ![16, 256, 1]⟩
abbrev S1 : Shape := ⟨1, ![1]⟩
abbrev S835584 : Shape := ⟨1, ![835584]⟩
abbrev S417792 : Shape := ⟨1, ![417792]⟩
abbrev S_ : Shape := ⟨0, ![]⟩
abbrev S16x512x102 : Shape := ⟨3, ![16, 512, 102]⟩
abbrev S16x512x102x102 : Shape := ⟨4, ![16, 512, 102, 102]⟩
abbrev S16x512x512x102 : Shape := ⟨4, ![16, 512, 512, 102]⟩
abbrev S16x512x51 : Shape := ⟨3, ![16, 512, 51]⟩
abbrev S16x512x51x51 : Shape := ⟨4, ![16, 512, 51, 51]⟩
abbrev S16x256x512x51 : Shape := ⟨4, ![16, 256, 512, 51]⟩

class Facts : Prop where
  bcast_S_S16x1x1 : S_.BroadcastsInDim S16x1x1 (![] : Fin 0 → Fin S16x1x1.rank)
  reducesTo_S16x1x1_S_d0_1_2 : S16x1x1.ReducesTo [0, 1, 2] S_
  h_S_ : 0 < S_.numel
  shapeCasts_S835584_S16x512x102 : S835584.ShapeCasts S16x512x102
  bcast_S_S16x512x102 : S_.BroadcastsInDim S16x512x102 (![] : Fin 0 → Fin S16x512x102.rank)
  bcast_S16x512x102_S16x512x102x102_0_1_2 : S16x512x102.BroadcastsInDim S16x512x102x102 (![0, 1, 2] : Fin 3 → Fin S16x512x102x102.rank)
  bcast_S16x512x102_S16x512x102x102_0_1_3 : S16x512x102.BroadcastsInDim S16x512x102x102 (![0, 1, 3] : Fin 3 → Fin S16x512x102x102.rank)
  bcast_S16x512x102_S16x512x512x102_0_2_3 : S16x512x102.BroadcastsInDim S16x512x512x102 (![0, 2, 3] : Fin 3 → Fin S16x512x512x102.rank)
  reducesTo_S16x512x512x102_S16x512x512_d3 : S16x512x512x102.ReducesTo [3] S16x512x512
  bcast_S_S16x512x512 : S_.BroadcastsInDim S16x512x512 (![] : Fin 0 → Fin S16x512x512.rank)
  reducesTo_S16x512x102_S_d0_1_2 : S16x512x102.ReducesTo [0, 1, 2] S_
  reducesTo_S16x512x102x102_S_d0_1_2_3 : S16x512x102x102.ReducesTo [0, 1, 2, 3] S_
  reducesTo_S16x512x512_S_d0_1_2 : S16x512x512.ReducesTo [0, 1, 2] S_
  shapeCasts_S417792_S16x512x51 : S417792.ShapeCasts S16x512x51
  bcast_S_S16x512x51 : S_.BroadcastsInDim S16x512x51 (![] : Fin 0 → Fin S16x512x51.rank)
  bcast_S16x512x51_S16x512x51x51_0_1_2 : S16x512x51.BroadcastsInDim S16x512x51x51 (![0, 1, 2] : Fin 3 → Fin S16x512x51x51.rank)
  bcast_S16x512x51_S16x512x51x51_0_1_3 : S16x512x51.BroadcastsInDim S16x512x51x51 (![0, 1, 3] : Fin 3 → Fin S16x512x51x51.rank)
  bcast_S16x512x51_S16x256x512x51_0_2_3 : S16x512x51.BroadcastsInDim S16x256x512x51 (![0, 2, 3] : Fin 3 → Fin S16x256x512x51.rank)
  reducesTo_S16x256x512x51_S16x256x512_d3 : S16x256x512x51.ReducesTo [3] S16x256x512
  bcast_S_S16x256x512 : S_.BroadcastsInDim S16x256x512 (![] : Fin 0 → Fin S16x256x512.rank)
  reducesTo_S16x512x51_S_d0_1_2 : S16x512x51.ReducesTo [0, 1, 2] S_
  reducesTo_S16x512x51x51_S_d0_1_2_3 : S16x512x51x51.ReducesTo [0, 1, 2, 3] S_
  reducesTo_S16x256x512_S_d0_1_2 : S16x256x512.ReducesTo [0, 1, 2] S_

variable [Facts]

def fn_part4 {F : FTy → Type} [FloatOps F] (main_v5 : IVec S_ 1) (main_v76 : IVec S_ 1) : IVec S_ 1 :=
  let main_v77 : IVec S_ 1 := andi main_v76 main_v5
  main_v77

def fn_part3 {F : FTy → Type} [FloatOps F] (main_arg3 : FVec F S16x256x512 .f32) (main_v5 : IVec S_ 1) (main_v40 : IVec S_ 1) (main_v43 : IVec S16x512x51 32) (main_v48 : IVec S16x512x51 1) (main_v53 : IVec S16x512x51 1) (main_v54 : IVec S16x512x51x51 32) (main_v55 : IVec S16x512x51x51 32) (main_v58 : IVec S16x512x51x51 1) : IVec S_ 1 :=
  let main_v59 : IVec S16x512x51x51 1 := cmpi .ne main_v54 main_v55
  let main_v60 : IVec S16x512x51x51 1 := ori main_v59 main_v58
  let main_v61 : IVec S16x256x512x51 32 := broadcastInDim S16x256x512x51 ![0, 2, 3] bcast_S16x512x51_S16x256x512x51_0_2_3 main_v43
  let main_v62 : IVec S16x256x512x51 32 := iotaInDim S16x256x512x51 32 1
  let main_v63 : IVec S16x256x512x51 1 := cmpi .ne main_v61 main_v62
  let main_c_11 : IVec S_ 1 := constantI S_ 1 1#1
  let main_v64 : IVec S16x256x512 1 := (fun x v => Host.reduce IntOp.andi x v reducesTo_S16x256x512x51_S16x256x512_d3 h_S_) main_v63 main_c_11
  let main_cst_12 : FVec F S_ .f32 := constant S_ .f32 0x00000000#32
  let main_v65 : FVec F S16x256x512 .f32 := broadcastInDim S16x256x512 ![] bcast_S_S16x256x512 main_cst_12
  let main_v66 : IVec S16x256x512 1 := cmpf .oeq main_arg3 main_v65
  let main_v67 : IVec S16x256x512 1 := noti main_v64
  let main_v68 : IVec S16x256x512 1 := ori main_v66 main_v67
  let main_c_13 : IVec S_ 1 := constantI S_ 1 1#1
  let main_v69 : IVec S_ 1 := (fun x v => Host.reduce IntOp.andi x v reducesTo_S16x512x51_S_d0_1_2 h_S_) main_v48 main_c_13
  let main_c_14 : IVec S_ 1 := constantI S_ 1 1#1
  let main_v70 : IVec S_ 1 := (fun x v => Host.reduce IntOp.andi x v reducesTo_S16x512x51_S_d0_1_2 h_S_) main_v53 main_c_14
  let main_v71 : IVec S_ 1 := andi main_v69 main_v70
  let main_c_15 : IVec S_ 1 := constantI S_ 1 1#1
  let main_v72 : IVec S_ 1 := (fun x v => Host.reduce IntOp.andi x v reducesTo_S16x512x51x51_S_d0_1_2_3 h_S_) main_v60 main_c_15
  let main_v73 : IVec S_ 1 := andi main_v71 main_v72
  let main_c_16 : IVec S_ 1 := constantI S_ 1 1#1
  let main_v74 : IVec S_ 1 := (fun x v => Host.reduce IntOp.andi x v reducesTo_S16x256x512_S_d0_1_2 h_S_) main_v68 main_c_16
  let main_v75 : IVec S_ 1 := andi main_v73 main_v74
  let main_v76 : IVec S_ 1 := andi main_v40 main_v75
  fn_part4 (F := F) main_v5 main_v76

def fn_part2 {F : FTy → Type} [FloatOps F] (main_arg3 : FVec F S16x256x512 .f32) (main_arg12 : IVec S417792 32) (main_arg13 : IVec S417792 32) (main_arg14 : IVec S417792 32) (main_v5 : IVec S_ 1) (main_v33 : IVec S16x512x512 1) (main_v36 : IVec S_ 1) (main_v37 : IVec S_ 1) : IVec S_ 1 :=
  let main_v38 : IVec S_ 1 := andi main_v36 main_v37
  let main_c_8 : IVec S_ 1 := constantI S_ 1 1#1
  let main_v39 : IVec S_ 1 := (fun x v => Host.reduce IntOp.andi x v reducesTo_S16x512x512_S_d0_1_2 h_S_) main_v33 main_c_8
  let main_v40 : IVec S_ 1 := andi main_v38 main_v39
  let main_v41 : IVec S16x512x51 32 := shapeCast S16x512x51 main_arg12 shapeCasts_S417792_S16x512x51
  let main_v42 : IVec S16x512x51 32 := shapeCast S16x512x51 main_arg13 shapeCasts_S417792_S16x512x51
  let main_v43 : IVec S16x512x51 32 := shapeCast S16x512x51 main_arg14 shapeCasts_S417792_S16x512x51
  let main_v44 : IVec S16x512x51 32 := iotaInDim S16x512x51 32 0
  let main_v45 : IVec S16x512x51 1 := cmpi .eq main_v41 main_v44
  let main_v46 : IVec S16x512x51 32 := iotaInDim S16x512x51 32 1
  let main_v47 : IVec S16x512x51 1 := cmpi .eq main_v42 main_v46
  let main_v48 : IVec S16x512x51 1 := andi main_v45 main_v47
  let main_c_9 : IVec S_ 32 := constantI S_ 32 0#32
  let main_v49 : IVec S16x512x51 32 := broadcastInDim S16x512x51 ![] bcast_S_S16x512x51 main_c_9
  let main_v50 : IVec S16x512x51 1 := cmpi .sge main_v43 main_v49
  let main_c_10 : IVec S_ 32 := constantI S_ 32 256#32
  let main_v51 : IVec S16x512x51 32 := broadcastInDim S16x512x51 ![] bcast_S_S16x512x51 main_c_10
  let main_v52 : IVec S16x512x51 1 := cmpi .slt main_v43 main_v51
  let main_v53 : IVec S16x512x51 1 := andi main_v50 main_v52
  let main_v54 : IVec S16x512x51x51 32 := broadcastInDim S16x512x51x51 ![0, 1, 2] bcast_S16x512x51_S16x512x51x51_0_1_2 main_v43
  let main_v55 : IVec S16x512x51x51 32 := broadcastInDim S16x512x51x51 ![0, 1, 3] bcast_S16x512x51_S16x512x51x51_0_1_3 main_v43
  let main_v56 : IVec S16x512x51x51 32 := iotaInDim S16x512x51x51 32 2
  let main_v57 : IVec S16x512x51x51 32 := iotaInDim S16x512x51x51 32 3
  let main_v58 : IVec S16x512x51x51 1 := cmpi .eq main_v56 main_v57
  fn_part3 (F := F) main_arg3 main_v5 main_v40 main_v43 main_v48 main_v53 main_v54 main_v55 main_v58

def fn_part1 {F : FTy → Type} [FloatOps F] (main_arg2 : FVec F S16x512x512 .f32) (main_arg3 : FVec F S16x256x512 .f32) (main_arg12 : IVec S417792 32) (main_arg13 : IVec S417792 32) (main_arg14 : IVec S417792 32) (main_v5 : IVec S_ 1) (main_v8 : IVec S16x512x102 32) (main_v13 : IVec S16x512x102 1) (main_v18 : IVec S16x512x102 1) : IVec S_ 1 :=
  let main_v19 : IVec S16x512x102x102 32 := broadcastInDim S16x512x102x102 ![0, 1, 2] bcast_S16x512x102_S16x512x102x102_0_1_2 main_v8
  let main_v20 : IVec S16x512x102x102 32 := broadcastInDim S16x512x102x102 ![0, 1, 3] bcast_S16x512x102_S16x512x102x102_0_1_3 main_v8
  let main_v21 : IVec S16x512x102x102 32 := iotaInDim S16x512x102x102 32 2
  let main_v22 : IVec S16x512x102x102 32 := iotaInDim S16x512x102x102 32 3
  let main_v23 : IVec S16x512x102x102 1 := cmpi .eq main_v21 main_v22
  let main_v24 : IVec S16x512x102x102 1 := cmpi .ne main_v19 main_v20
  let main_v25 : IVec S16x512x102x102 1 := ori main_v24 main_v23
  let main_v26 : IVec S16x512x512x102 32 := broadcastInDim S16x512x512x102 ![0, 2, 3] bcast_S16x512x102_S16x512x512x102_0_2_3 main_v8
  let main_v27 : IVec S16x512x512x102 32 := iotaInDim S16x512x512x102 32 1
  let main_v28 : IVec S16x512x512x102 1 := cmpi .ne main_v26 main_v27
  let main_c_3 : IVec S_ 1 := constantI S_ 1 1#1
  let main_v29 : IVec S16x512x512 1 := (fun x v => Host.reduce IntOp.andi x v reducesTo_S16x512x512x102_S16x512x512_d3 h_S_) main_v28 main_c_3
  let main_cst_4 : FVec F S_ .f32 := constant S_ .f32 0x00000000#32
  let main_v30 : FVec F S16x512x512 .f32 := broadcastInDim S16x512x512 ![] bcast_S_S16x512x512 main_cst_4
  let main_v31 : IVec S16x512x512 1 := cmpf .oeq main_arg2 main_v30
  let main_v32 : IVec S16x512x512 1 := noti main_v29
  let main_v33 : IVec S16x512x512 1 := ori main_v31 main_v32
  let main_c_5 : IVec S_ 1 := constantI S_ 1 1#1
  let main_v34 : IVec S_ 1 := (fun x v => Host.reduce IntOp.andi x v reducesTo_S16x512x102_S_d0_1_2 h_S_) main_v13 main_c_5
  let main_c_6 : IVec S_ 1 := constantI S_ 1 1#1
  let main_v35 : IVec S_ 1 := (fun x v => Host.reduce IntOp.andi x v reducesTo_S16x512x102_S_d0_1_2 h_S_) main_v18 main_c_6
  let main_v36 : IVec S_ 1 := andi main_v34 main_v35
  let main_c_7 : IVec S_ 1 := constantI S_ 1 1#1
  let main_v37 : IVec S_ 1 := (fun x v => Host.reduce IntOp.andi x v reducesTo_S16x512x102x102_S_d0_1_2_3 h_S_) main_v25 main_c_7
  fn_part2 (F := F) main_arg3 main_arg12 main_arg13 main_arg14 main_v5 main_v33 main_v36 main_v37

def fn {F : FTy → Type} [FloatOps F] (main_arg0 : FVec F S32x16x256 .f32) (main_arg1 : FVec F S32x16x512 .f32) (main_arg2 : FVec F S16x512x512 .f32) (main_arg3 : FVec F S16x256x512 .f32) (main_arg4 : FVec F S16x1x512 .f32) (main_arg5 : FVec F S16x512x256 .f32) (main_arg6 : FVec F S16x1x1 .f32) (main_arg7 : FVec F S16x256x1 .f32) (main_arg8 : FVec F S1 .f32) (main_arg9 : IVec S835584 32) (main_arg10 : IVec S835584 32) (main_arg11 : IVec S835584 32) (main_arg12 : IVec S417792 32) (main_arg13 : IVec S417792 32) (main_arg14 : IVec S417792 32) : IVec S_ 1 :=
  let main_cst : FVec F S_ .f32 := constant S_ .f32 0x00000000#32
  let main_v0 : FVec F S16x1x1 .f32 := broadcastInDim S16x1x1 ![] bcast_S_S16x1x1 main_cst
  let main_v1 : IVec S16x1x1 1 := cmpf .oge main_arg6 main_v0
  let main_cst_0 : FVec F S_ .f32 := constant S_ .f32 0x7F800000#32
  let main_v2 : FVec F S16x1x1 .f32 := broadcastInDim S16x1x1 ![] bcast_S_S16x1x1 main_cst_0
  let main_v3 : IVec S16x1x1 1 := cmpf .olt main_arg6 main_v2
  let main_v4 : IVec S16x1x1 1 := andi main_v1 main_v3
  let main_c : IVec S_ 1 := constantI S_ 1 1#1
  let main_v5 : IVec S_ 1 := (fun x v => Host.reduce IntOp.andi x v reducesTo_S16x1x1_S_d0_1_2 h_S_) main_v4 main_c
  let main_v6 : IVec S16x512x102 32 := shapeCast S16x512x102 main_arg9 shapeCasts_S835584_S16x512x102
  let main_v7 : IVec S16x512x102 32 := shapeCast S16x512x102 main_arg10 shapeCasts_S835584_S16x512x102
  let main_v8 : IVec S16x512x102 32 := shapeCast S16x512x102 main_arg11 shapeCasts_S835584_S16x512x102
  let main_v9 : IVec S16x512x102 32 := iotaInDim S16x512x102 32 0
  let main_v10 : IVec S16x512x102 1 := cmpi .eq main_v6 main_v9
  let main_v11 : IVec S16x512x102 32 := iotaInDim S16x512x102 32 1
  let main_v12 : IVec S16x512x102 1 := cmpi .eq main_v7 main_v11
  let main_v13 : IVec S16x512x102 1 := andi main_v10 main_v12
  let main_c_1 : IVec S_ 32 := constantI S_ 32 0#32
  let main_v14 : IVec S16x512x102 32 := broadcastInDim S16x512x102 ![] bcast_S_S16x512x102 main_c_1
  let main_v15 : IVec S16x512x102 1 := cmpi .sge main_v8 main_v14
  let main_c_2 : IVec S_ 32 := constantI S_ 32 512#32
  let main_v16 : IVec S16x512x102 32 := broadcastInDim S16x512x102 ![] bcast_S_S16x512x102 main_c_2
  let main_v17 : IVec S16x512x102 1 := cmpi .slt main_v8 main_v16
  let main_v18 : IVec S16x512x102 1 := andi main_v15 main_v17
  fn_part1 (F := F) main_arg2 main_arg3 main_arg12 main_arg13 main_arg14 main_v5 main_v8 main_v13 main_v18
-- ==== Kernel.lean ====
abbrev S32x16x256 : Shape := ⟨3, ![32, 16, 256]⟩
abbrev S32x16x512 : Shape := ⟨3, ![32, 16, 512]⟩
abbrev S16x512x512 : Shape := ⟨3, ![16, 512, 512]⟩
abbrev S16x256x512 : Shape := ⟨3, ![16, 256, 512]⟩
abbrev S16x1x512 : Shape := ⟨3, ![16, 1, 512]⟩
abbrev S16x512x256 : Shape := ⟨3, ![16, 512, 256]⟩
abbrev S16x1x1 : Shape := ⟨3, ![16, 1, 1]⟩
abbrev S16x256x1 : Shape := ⟨3, ![16, 256, 1]⟩
abbrev S1 : Shape := ⟨1, ![1]⟩
abbrev S835584 : Shape := ⟨1, ![835584]⟩
abbrev S417792 : Shape := ⟨1, ![417792]⟩
abbrev S16x256 : Shape := ⟨2, ![16, 256]⟩
abbrev S1x1 : Shape := ⟨2, ![1, 1]⟩
abbrev S8x512x512 : Shape := ⟨3, ![8, 512, 512]⟩
abbrev S8x256x512 : Shape := ⟨3, ![8, 256, 512]⟩
abbrev S8x1x512 : Shape := ⟨3, ![8, 1, 512]⟩
abbrev S8x512x256 : Shape := ⟨3, ![8, 512, 256]⟩
abbrev S32x16 : Shape := ⟨2, ![32, 16]⟩
abbrev S1x16x256 : Shape := ⟨3, ![1, 16, 256]⟩
abbrev S32 : Shape := ⟨1, ![32]⟩
abbrev S32x1 : Shape := ⟨2, ![32, 1]⟩
abbrev S32x1x256 : Shape := ⟨3, ![32, 1, 256]⟩
abbrev S32x256 : Shape := ⟨2, ![32, 256]⟩
abbrev S32x1x512 : Shape := ⟨3, ![32, 1, 512]⟩
abbrev S32x512 : Shape := ⟨2, ![32, 512]⟩
abbrev S1x256x512 : Shape := ⟨3, ![1, 256, 512]⟩
abbrev S256x512 : Shape := ⟨2, ![256, 512]⟩
abbrev S1x512x512 : Shape := ⟨3, ![1, 512, 512]⟩
abbrev S512x512 : Shape := ⟨2, ![512, 512]⟩
abbrev S1x1x512 : Shape := ⟨3, ![1, 1, 512]⟩
abbrev S1x512 : Shape := ⟨2, ![1, 512]⟩
abbrev S1x512x256 : Shape := ⟨3, ![1, 512, 256]⟩
abbrev S512x256 : Shape := ⟨2, ![512, 256]⟩

abbrev nBuf : Space → Nat
  | .hbm => 20
  | .vmem => 17
  | .smem => 0
  | _ => 0

abbrev bufTy : (tb : Table) → Fin (tcTables nBuf tb) → BufTy
  | .hbm, ⟨0, _⟩ => ⟨S32x16x256, .f32⟩
  | .hbm, ⟨1, _⟩ => ⟨S32x16x512, .f32⟩
  | .hbm, ⟨2, _⟩ => ⟨S16x512x512, .f32⟩
  | .hbm, ⟨3, _⟩ => ⟨S16x256x512, .f32⟩
  | .hbm, ⟨4, _⟩ => ⟨S16x1x512, .f32⟩
  | .hbm, ⟨5, _⟩ => ⟨S16x512x256, .f32⟩
  | .hbm, ⟨6, _⟩ => ⟨S16x1x1, .f32⟩
  | .hbm, ⟨7, _⟩ => ⟨S16x256x1, .f32⟩
  | .hbm, ⟨8, _⟩ => ⟨S1, .f32⟩
  | .hbm, ⟨9, _⟩ => ⟨S835584, .i32⟩
  | .hbm, ⟨10, _⟩ => ⟨S835584, .i32⟩
  | .hbm, ⟨11, _⟩ => ⟨S835584, .i32⟩
  | .hbm, ⟨12, _⟩ => ⟨S417792, .i32⟩
  | .hbm, ⟨13, _⟩ => ⟨S417792, .i32⟩
  | .hbm, ⟨14, _⟩ => ⟨S417792, .i32⟩
  | .hbm, ⟨15, _⟩ => ⟨S16x1x512, .f32⟩
  | .hbm, ⟨16, _⟩ => ⟨S16x256, .f32⟩
  | .hbm, ⟨17, _⟩ => ⟨S1x1, .f32⟩
  | .hbm, ⟨18, _⟩ => ⟨S32x16x512, .f32⟩
  | .hbm, ⟨19, _⟩ => ⟨S32x16x256, .f32⟩
  | .local _ .vmem, ⟨0, _⟩ => ⟨S32x16x256, .f32⟩
  | .local _ .vmem, ⟨1, _⟩ => ⟨S32x16x512, .f32⟩
  | .local _ .vmem, ⟨2, _⟩ => ⟨S8x512x512, .f32⟩
  | .local _ .vmem, ⟨3, _⟩ => ⟨S8x512x512, .f32⟩
  | .local _ .vmem, ⟨4, _⟩ => ⟨S8x256x512, .f32⟩
  | .local _ .vmem, ⟨5, _⟩ => ⟨S8x256x512, .f32⟩
  | .local _ .vmem, ⟨6, _⟩ => ⟨S8x1x512, .f32⟩
  | .local _ .vmem, ⟨7, _⟩ => ⟨S8x1x512, .f32⟩
  | .local _ .vmem, ⟨8, _⟩ => ⟨S8x1x512, .f32⟩
  | .local _ .vmem, ⟨9, _⟩ => ⟨S8x1x512, .f32⟩
  | .local _ .vmem, ⟨10, _⟩ => ⟨S8x512x256, .f32⟩
  | .local _ .vmem, ⟨11, _⟩ => ⟨S8x512x256, .f32⟩
  | .local _ .vmem, ⟨12, _⟩ => ⟨S16x256, .f32⟩
  | .local _ .vmem, ⟨13, _⟩ => ⟨S1x1, .f32⟩
  | .local _ .vmem, ⟨14, _⟩ => ⟨S32x16x512, .f32⟩
  | .local _ .vmem, ⟨15, _⟩ => ⟨S32x16x256, .f32⟩
  | .local _ .vmem, ⟨16, _⟩ => ⟨S32x16, .f32⟩
  | _, _ => ⟨S32x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3_0 : Ref sig .tc := ⟨.hbm, 18, rfl⟩
abbrev main_v3_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![2], ![false]⟩

def k0_off1 (i : grid0.Coords) (c0_i32_1 : BitVec 32) : Fin 3 → Nat :=
  let c0_4 : Index := 0#32
  let arg0 : BitVec 32 := BitVec.ofNat 32 (i 0).val
  let c8_i32 : BitVec 32 := 8#32
  let v3 : BitVec 32 := Scalar.muli arg0 c8_i32
  let v4 : BitVec 32 := Scalar.addi v3 c0_i32_1
  let v13 : Index := Scalar.indexCast v4
  let c0_5 : Index := 0#32
  ![0, v13.toNat, 0]
def k0_off2 (i : grid0.Coords) (c0_i32_1 : BitVec 32) : Fin 3 → Nat :=
  let c0_6 : Index := 0#32
  let arg0 : BitVec 32 := BitVec.ofNat 32 (i 0).val
  let c8_i32 : BitVec 32 := 8#32
  let v3 : BitVec 32 := Scalar.muli arg0 c8_i32
  let v4 : BitVec 32 := Scalar.addi v3 c0_i32_1
  let v16 : Index := Scalar.indexCast v4
  let c0_7 : Index := 0#32
  ![0, v16.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S32x16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x16x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x16x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S32x16x256 : Shape := ⟨3, ![32, 16, 256]⟩
abbrev S32x16x512 : Shape := ⟨3, ![32, 16, 512]⟩
abbrev S16x512x512 : Shape := ⟨3, ![16, 512, 512]⟩
abbrev S16x256x512 : Shape := ⟨3, ![16, 256, 512]⟩
abbrev S16x1x512 : Shape := ⟨3, ![16, 1, 512]⟩
abbrev S16x512x256 : Shape := ⟨3, ![16, 512, 256]⟩
abbrev S16x1x1 : Shape := ⟨3, ![16, 1, 1]⟩
abbrev S16x256x1 : Shape := ⟨3, ![16, 256, 1]⟩
abbrev S1 : Shape := ⟨1, ![1]⟩
abbrev S835584 : Shape := ⟨1, ![835584]⟩
abbrev S417792 : Shape := ⟨1, ![417792]⟩
abbrev S32x16x1x256 : Shape := ⟨4, ![32, 16, 1, 256]⟩
abbrev S32x16x1x512 : Shape := ⟨4, ![32, 16, 1, 512]⟩
abbrev S16x32x1x1 : Shape := ⟨4, ![16, 32, 1, 1]⟩
abbrev S32x16x1x1 : Shape := ⟨4, ![32, 16, 1, 1]⟩
abbrev S1x1x1x1 : Shape := ⟨4, ![1, 1, 1, 1]⟩
abbrev S_ : Shape := ⟨0, ![]⟩
abbrev S32x1x1 : Shape := ⟨3, ![32, 1, 1]⟩
abbrev S32x1x1x1 : Shape := ⟨4, ![32, 1, 1, 1]⟩
abbrev S417792x1 : Shape := ⟨2, ![417792, 1]⟩
abbrev S417792x3 : Shape := ⟨2, ![417792, 3]⟩
abbrev S16x512x51 : Shape := ⟨3, ![16, 512, 51]⟩
abbrev S16x51x512 : Shape := ⟨3, ![16, 51, 512]⟩
abbrev S32x417792 : Shape := ⟨2, ![32, 417792]⟩
abbrev S32x16x512x51 : Shape := ⟨4, ![32, 16, 512, 51]⟩
abbrev S32x16x51x512 : Shape := ⟨4, ![32, 16, 51, 512]⟩
abbrev S1x16x51x512 : Shape := ⟨4, ![1, 16, 51, 512]⟩
abbrev S835584x1 : Shape := ⟨2, ![835584, 1]⟩
abbrev S835584x3 : Shape := ⟨2, ![835584, 3]⟩
abbrev S16x512x102 : Shape := ⟨3, ![16, 512, 102]⟩
abbrev S16x102x512 : Shape := ⟨3, ![16, 102, 512]⟩
abbrev S32x835584 : Shape := ⟨2, ![32, 835584]⟩
abbrev S32x16x512x102 : Shape := ⟨4, ![32, 16, 512, 102]⟩
abbrev S32x16x102x512 : Shape := ⟨4, ![32, 16, 102, 512]⟩
abbrev S1x16x102x512 : Shape := ⟨4, ![1, 16, 102, 512]⟩
abbrev S1x16x1x512 : Shape := ⟨4, ![1, 16, 1, 512]⟩
abbrev S16x32x1x256 : Shape := ⟨4, ![16, 32, 1, 256]⟩

abbrev nBuf : Space → Nat
  | .hbm => 173
  | .vmem => 0
  | .smem => 0
  | _ => 0

abbrev hbmTy0_0 (i : Nat) : BufTy := match i % 128 with
  | 0 => ⟨S32x16x256, .f32⟩
  | 1 => ⟨S32x16x512, .f32⟩
  | 2 => ⟨S16x512x512, .f32⟩
  | 3 => ⟨S16x256x512, .f32⟩
  | 4 => ⟨S16x1x512, .f32⟩
  | 5 => ⟨S16x512x256, .f32⟩
  | 6 => ⟨S16x1x1, .f32⟩
  | 7 => ⟨S16x256x1, .f32⟩
  | 8 => ⟨S1, .f32⟩
  | 9 => ⟨S835584, .i32⟩
  | 10 => ⟨S835584, .i32⟩
  | 11 => ⟨S835584, .i32⟩
  | 12 => ⟨S417792, .i32⟩
  | 13 => ⟨S417792, .i32⟩
  | 14 => ⟨S417792, .i32⟩
  | 15 => ⟨S32x16x1x256, .f32⟩
  | 16 => ⟨S32x16x1x512, .f32⟩
  | 17 => ⟨S16x32x1x1, .f32⟩
  | 18 => ⟨S32x16x1x1, .f32⟩
  | 19 => ⟨S1x1x1x1, .f32⟩
  | 20 => ⟨S32x16x1x1, .f32⟩
  | 21 => ⟨S32x16x1x1, .f32⟩
  | 22 => ⟨S_, .f32⟩
  | 23 => ⟨S32x1x1, .f32⟩
  | 24 => ⟨S_, .f32⟩
  | 25 => ⟨S32x1x1, .f32⟩
  | 26 => ⟨S32x1x1, .f32⟩
  | 27 => ⟨S32x1x1x1, .f32⟩
  | 28 => ⟨S32x16x1x1, .f32⟩
  | 29 => ⟨S32x16x1x1, .f32⟩
  | 30 => ⟨S32x16x1x1, .f32⟩
  | 31 => ⟨S_, .f32⟩
  | 32 => ⟨S32x1x1, .f32⟩
  | 33 => ⟨S32x1x1x1, .f32⟩
  | 34 => ⟨S32x16x1x1, .f32⟩
  | 35 => ⟨S32x16x1x1, .f32⟩
  | 36 => ⟨S16x512x256, .f32⟩
  | 37 => ⟨S_, .i32⟩
  | 38 => ⟨S417792, .i32⟩
  | 39 => ⟨S417792, .i1⟩
  | 40 => ⟨S_, .i32⟩
  | 41 => ⟨S417792, .i32⟩
  | 42 => ⟨S417792, .i32⟩
  | 43 => ⟨S417792, .i32⟩
  | 44 => ⟨S_, .i32⟩
  | 45 => ⟨S417792, .i32⟩
  | 46 => ⟨S417792, .i1⟩
  | 47 => ⟨S_, .i32⟩
  | 48 => ⟨S417792, .i32⟩
  | 49 => ⟨S417792, .i32⟩
  | 50 => ⟨S417792, .i32⟩
  | 51 => ⟨S_, .i32⟩
  | 52 => ⟨S417792, .i32⟩
  | 53 => ⟨S417792, .i1⟩
  | 54 => ⟨S_, .i32⟩
  | 55 => ⟨S417792, .i32⟩
  | 56 => ⟨S417792, .i32⟩
  | 57 => ⟨S417792, .i32⟩
  | 58 => ⟨S417792x1, .i32⟩
  | 59 => ⟨S417792x1, .i32⟩
  | 60 => ⟨S417792x1, .i32⟩
  | 61 => ⟨S417792x3, .i32⟩
  | 62 => ⟨S417792, .f32⟩
  | 63 => ⟨S16x512x51, .f32⟩
  | 64 => ⟨S16x51x512, .f32⟩
  | 65 => ⟨S_, .i32⟩
  | 66 => ⟨S417792, .i32⟩
  | 67 => ⟨S417792, .i1⟩
  | 68 => ⟨S_, .i32⟩
  | 69 => ⟨S417792, .i32⟩
  | 70 => ⟨S417792, .i32⟩
  | 71 => ⟨S417792, .i32⟩
  | 72 => ⟨S_, .i32⟩
  | 73 => ⟨S417792, .i32⟩
  | 74 => ⟨S417792, .i1⟩
  | 75 => ⟨S_, .i32⟩
  | 76 => ⟨S417792, .i32⟩
  | 77 => ⟨S417792, .i32⟩
  | 78 => ⟨S417792, .i32⟩
  | 79 => ⟨S_, .i32⟩
  | 80 => ⟨S417792, .i32⟩
  | 81 => ⟨S417792, .i32⟩
  | 82 => ⟨S417792x1, .i32⟩
  | 83 => ⟨S417792x1, .i32⟩
  | 84 => ⟨S417792x1, .i32⟩
  | 85 => ⟨S417792x3, .i32⟩
  | 86 => ⟨S32x417792, .f32⟩
  | 87 => ⟨S32x16x512x51, .f32⟩
  | 88 => ⟨S32x16x51x512, .f32⟩
  | 89 => ⟨S1x16x51x512, .f32⟩
  | 90 => ⟨S32x16x51x512, .f32⟩
  | 91 => ⟨S32x16x51x512, .f32⟩
  | 92 => ⟨S_, .f32⟩
  | 93 => ⟨S32x16x512, .f32⟩
  | 94 => ⟨S32x16x1x512, .f32⟩
  | 95 => ⟨S16x512x512, .f32⟩
  | 96 => ⟨S16x512x512, .f32⟩
  | 97 => ⟨S16x512x512, .f32⟩
  | 98 => ⟨S_, .i32⟩
  | 99 => ⟨S835584, .i32⟩
  | 100 => ⟨S835584, .i1⟩
  | 101 => ⟨S_, .i32⟩
  | 102 => ⟨S835584, .i32⟩
  | 103 => ⟨S835584, .i32⟩
  | 104 => ⟨S835584, .i32⟩
  | 105 => ⟨S_, .i32⟩
  | 106 => ⟨S835584, .i32⟩
  | 107 => ⟨S835584, .i1⟩
  | 108 => ⟨S_, .i32⟩
  | 109 => ⟨S835584, .i32⟩
  | 110 => ⟨S835584, .i32⟩
  | 111 => ⟨S835584, .i32⟩
  | 112 => ⟨S_, .i32⟩
  | 113 => ⟨S835584, .i32⟩
  | 114 => ⟨S835584, .i1⟩
  | 115 => ⟨S_, .i32⟩
  | 116 => ⟨S835584, .i32⟩
  | 117 => ⟨S835584, .i32⟩
  | 118 => ⟨S835584, .i32⟩
  | 119 => ⟨S835584x1, .i32⟩
  | 120 => ⟨S835584x1, .i32⟩
  | 121 => ⟨S835584x1, .i32⟩
  | 122 => ⟨S835584x3, .i32⟩
  | 123 => ⟨S835584, .f32⟩
  | 124 => ⟨S16x512x102, .f32⟩
  | 125 => ⟨S16x102x512, .f32⟩
  | 126 => ⟨S_, .i32⟩
  | 127 => ⟨S835584, .i32⟩
  | _ => ⟨S32x16x256, .f32⟩

abbrev hbmTy0_1 (i : Nat) : BufTy := match i % 128 with
  | 0 => ⟨S835584, .i1⟩
  | 1 => ⟨S_, .i32⟩
  | 2 => ⟨S835584, .i32⟩
  | 3 => ⟨S835584, .i32⟩
  | 4 => ⟨S835584, .i32⟩
  | 5 => ⟨S_, .i32⟩
  | 6 => ⟨S835584, .i32⟩
  | 7 => ⟨S835584, .i1⟩
  | 8 => ⟨S_, .i32⟩
  | 9 => ⟨S835584, .i32⟩
  | 10 => ⟨S835584, .i32⟩
  | 11 => ⟨S835584, .i32⟩
  | 12 => ⟨S_, .i32⟩
  | 13 => ⟨S835584, .i32⟩
  | 14 => ⟨S835584, .i32⟩
  | 15 => ⟨S835584x1, .i32⟩
  | 16 => ⟨S835584x1, .i32⟩
  | 17 => ⟨S835584x1, .i32⟩
  | 18 => ⟨S835584x3, .i32⟩
  | 19 => ⟨S32x835584, .f32⟩
  | 20 => ⟨S32x16x512x102, .f32⟩
  | 21 => ⟨S32x16x102x512, .f32⟩
  | 22 => ⟨S1x16x102x512, .f32⟩
  | 23 => ⟨S32x16x102x512, .f32⟩
  | 24 => ⟨S32x16x102x512, .f32⟩
  | 25 => ⟨S_, .f32⟩
  | 26 => ⟨S32x16x512, .f32⟩
  | 27 => ⟨S32x16x1x512, .f32⟩
  | 28 => ⟨S1x16x1x512, .f32⟩
  | 29 => ⟨S32x16x1x512, .f32⟩
  | 30 => ⟨S32x16x1x512, .f32⟩
  | 31 => ⟨S_, .f32⟩
  | 32 => ⟨S32x16x1x1, .f32⟩
  | 33 => ⟨S32x16x1x1, .f32⟩
  | 34 => ⟨S32x16x1x512, .f32⟩
  | 35 => ⟨S32x16x1x512, .f32⟩
  | 36 => ⟨S32x16x1x512, .f32⟩
  | 37 => ⟨S32x16x1x512, .f32⟩
  | 38 => ⟨S32x16x1x512, .f32⟩
  | 39 => ⟨S32x16x1x512, .f32⟩
  | 40 => ⟨S32x16x1x512, .f32⟩
  | 41 => ⟨S16x32x1x256, .f32⟩
  | 42 => ⟨S32x16x1x256, .f32⟩
  | 43 => ⟨S32x16x512, .f32⟩
  | 44 => ⟨S32x16x256, .f32⟩
  | _ => ⟨S32x16x256, .f32⟩

abbrev hbmTy (i : Nat) : BufTy := match i / 128 with
  | 0 => hbmTy0_0 i
  | 1 => hbmTy0_1 i
  | _ => ⟨S32x16x256, .f32⟩

abbrev bufTy : (tb : Table) → Fin (tcTables nBuf tb) → BufTy
  | .hbm, ⟨i, _⟩ => hbmTy i
  | _, _ => ⟨S32x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_3 : Ref sig .tc := ⟨.hbm, 44, rfl⟩
abbrev main_v24 : Ref sig .tc := ⟨.hbm, 45, rfl⟩
abbrev main_v25 : Ref sig .tc := ⟨.hbm, 46, rfl⟩
abbrev main_c_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_7 : Ref sig .tc := ⟨.hbm, 65, rfl⟩
abbrev main_v41 : Ref sig .tc := ⟨.hbm, 66, rfl⟩
abbrev main_v42 : Ref sig .tc := ⟨.hbm, 67, rfl⟩
abbrev main_c_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_9 : Ref sig .tc := ⟨.hbm, 72, rfl⟩
abbrev main_v46 : Ref sig .tc := ⟨.hbm, 73, rfl⟩
abbrev main_v47 : Ref sig .tc := ⟨.hbm, 74, rfl⟩
abbrev main_c_10 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_11 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_13 : Ref sig .tc := ⟨.hbm, 98, rfl⟩
abbrev main_v68 : Ref sig .tc := ⟨.hbm, 99, rfl⟩
abbrev main_v69 : Ref sig .tc := ⟨.hbm, 100, rfl⟩
abbrev main_c_14 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_15 : Ref sig .tc := ⟨.hbm, 105, rfl⟩
abbrev main_v73 : Ref sig .tc := ⟨.hbm, 106, rfl⟩
abbrev main_v74 : Ref sig .tc := ⟨.hbm, 107, rfl⟩
abbrev main_c_16 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_c_17 : Ref sig .tc := ⟨.hbm, 112, rfl⟩
abbrev main_v78 : Ref sig .tc := ⟨.hbm, 113, rfl⟩
abbrev main_v79 : Ref sig .tc := ⟨.hbm, 114, rfl⟩
abbrev main_c_18 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_c_19 : Ref sig .tc := ⟨.hbm, 126, rfl⟩
abbrev main_v90 : Ref sig .tc := ⟨.hbm, 127, rfl⟩
abbrev main_v91 : Ref sig .tc := ⟨.hbm, 128, rfl⟩
abbrev main_c_20 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_c_21 : Ref sig .tc := ⟨.hbm, 133, rfl⟩
abbrev main_v95 : Ref sig .tc := ⟨.hbm, 134, rfl⟩
abbrev main_v96 : Ref sig .tc := ⟨.hbm, 135, rfl⟩
abbrev main_c_22 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_c_23 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_24 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_25 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩

abbrev nD : Nat := 1
abbrev τ : Topo := Topo.v7x

variable {F : FTy → Type} [FloatOps F]
-- ==== Proof.Heads.lean ====
module

public import proofs.«01_k».proof.Proof.Gen.KernelIdeal.Frame
public import proofs.«01_k».proof.Proof.Gen.KernelIdeal.Skeleton
public import Idealize.ShloMosaic.Lib.ValueIdx
public import Idealize.ShloMosaic.Lib.Pipeline.Value

@[expose] public section

/-!
# One head of the kernel body

The body treats eight heads one after the other with the same operations. This module names what one head
computes from the vectors it loads, and reads an output buffer after the eight stores of a grid point.
-/

set_option maxRecDepth 16384

noncomputable section

namespace Cert.KernelIdeal.Hand

open Cert.KernelIdeal.Gen
open Idealize.ShloMosaic Idealize.ShloMosaic.TcCoe Idealize.ShloMosaic.Tactic Idealize.ShloMosaic.ValueIdx

variable {F : FTy → Type} [FloatOps F]

/-- The word of the head number: eight times the grid coordinate, plus the place within the block. -/
abbrev base (i : grid0.Coords) : BitVec 32 := Scalar.muli (BitVec.ofNat 32 (i 0).val) 8#32

/-- The head number at grid coordinate `i`, place `c` of the block. -/
def row (i : grid0.Coords) (c : Fin 8) : Fin 16 := ⟨(i 0).val * 8 + c.val, by
  have h : (i 0).val < 2 := (i 0).isLt
  have := c.isLt; omega⟩

/-- The leak rate of one head, picked out of the table `L` by comparing the column number with the head's. -/
def headLr (i : grid0.Coords) (c : Fin 8) (L : Vec F S32x16 .f32) : FVec F S32x1 .f32 :=
  k0_pay19 (base i) (BitVec.ofNat 32 c.val) L

/-- What one head stores into the new state. -/
def headNew (i : grid0.Coords) (c : Fin 8) (L : Vec F S32x16 .f32) (x : Vec F S32x1x256 .f32) (s : Vec F S32x1x512 .f32)
    (win : Vec F S1x256x512 .f32) (w : Vec F S1x512x512 .f32) (sr b : Vec F S1x1x512 .f32) : FVec F S32x1x512 .f32 :=
  k0_pay17 (headLr i c L) (k0_pay14 x) (k0_pay15 s) win w sr b

/-- What one head stores into the output. -/
def headOut (i : grid0.Coords) (c : Fin 8) (L : Vec F S32x16 .f32) (x : Vec F S32x1x256 .f32) (s : Vec F S32x1x512 .f32)
    (win : Vec F S1x256x512 .f32) (w : Vec F S1x512x512 .f32) (sr b : Vec F S1x1x512 .f32) (wo : Vec F S1x512x256 .f32) :
    FVec F S32x1x256 .f32 :=
  k0_pay18 (headLr i c L) (k0_pay14 x) (k0_pay15 s) win w sr b wo

/-- The offsets of the state rectangle of a head, in naturals. -/
theorem off2_val (i : grid0.Coords) (c : Fin 8) : k0_off2 i (BitVec.ofNat 32 c.val) = ![0, (row i c).val, 0] := by
  have h : (i 0).val < 2 := (i 0).isLt
  have hc := c.isLt
  have e : (Scalar.indexCast (Scalar.addi (Scalar.muli (BitVec.ofNat 32 (i 0).val) 8#32) (BitVec.ofNat 32 c.val))).toNat
      = (i 0).val * 8 + c.val := by
    show ((BitVec.ofNat 32 (i 0).val * 8#32 + BitVec.ofNat 32 c.val : BitVec 32)).toNat = _
    rw [BitVec.toNat_add, BitVec.toNat_mul, BitVec.toNat_ofNat, BitVec.toNat_ofNat]
    simp only [BitVec.toNat_ofNat]
    omega
  show ![0, (Scalar.indexCast (Scalar.addi (Scalar.muli (BitVec.ofNat 32 (i 0).val) 8#32) (BitVec.ofNat 32 c.val))).toNat, 0] = _
  rw [e]; rfl

theorem off1_val (i : grid0.Coords) (c : Fin 8) : k0_off1 i (BitVec.ofNat 32 c.val) = ![0, (row i c).val, 0] := off2_val i c

/-- The rectangle of a head in the state, in the output, and in the block of each weight array. -/
abbrev rS (i : grid0.Coords) (c : Fin 8) : Rect S32x16x512 := Rect.unit (k0_off2 i (BitVec.ofNat 32 c.val)) S32x1x512.size (k0_off2_inb i c)
abbrev rX (i : grid0.Coords) (c : Fin 8) : Rect S32x16x256 := Rect.unit (k0_off1 i (BitVec.ofNat 32 c.val)) S32x1x256.size (k0_off1_inb i c)

theorem inbW (c : Fin 8) : ∀ a, (![c.val, 0, 0] : Fin 3 → Nat) a + S1x512x512.size a ≤ S8x512x512.size a := by
  revert c; decide
theorem inbWin (c : Fin 8) : ∀ a, (![c.val, 0, 0] : Fin 3 → Nat) a + S1x256x512.size a ≤ S8x256x512.size a := by
  revert c; decide
theorem inbV (c : Fin 8) : ∀ a, (![c.val, 0, 0] : Fin 3 → Nat) a + S1x1x512.size a ≤ S8x1x512.size a := by
  revert c; decide
theorem inbWo (c : Fin 8) : ∀ a, (![c.val, 0, 0] : Fin 3 → Nat) a + S1x512x256.size a ≤ S8x512x256.size a := by
  revert c; decide

abbrev rW (c : Fin 8) : Rect S8x512x512 := Rect.unit ![c.val, 0, 0] S1x512x512.size (inbW c)
abbrev rWin (c : Fin 8) : Rect S8x256x512 := Rect.unit ![c.val, 0, 0] S1x256x512.size (inbWin c)
abbrev rV (c : Fin 8) : Rect S8x1x512 := Rect.unit ![c.val, 0, 0] S1x1x512.size (inbV c)
abbrev rWo (c : Fin 8) : Rect S8x512x256 := Rect.unit ![c.val, 0, 0] S1x512x256.size (inbWo c)

theorem emb_rS (i : grid0.Coords) (c : Fin 8) (b : Fin 32) (n : Fin 512) : (rS i c).emb (ix3 b 0 n) = ix3 b (row i c) n := by
  funext a; apply Fin.ext; rw [Rect.emb_apply]
  simp only [Rect.off_unit, Rect.stride_unit, off2_val]
  match a with
  | ⟨0, _⟩ => show 0 + 1 * b.val = b.val; omega
  | ⟨1, _⟩ => show (row i c).val + 1 * 0 = (row i c).val; omega
  | ⟨2, _⟩ => show 0 + 1 * n.val = n.val; omega

theorem emb_rX (i : grid0.Coords) (c : Fin 8) (b : Fin 32) (n : Fin 256) : (rX i c).emb (ix3 b 0 n) = ix3 b (row i c) n := by
  funext a; apply Fin.ext; rw [Rect.emb_apply]
  simp only [Rect.off_unit, Rect.stride_unit, off1_val]
  match a with
  | ⟨0, _⟩ => show 0 + 1 * b.val = b.val; omega
  | ⟨1, _⟩ => show (row i c).val + 1 * 0 = (row i c).val; omega
  | ⟨2, _⟩ => show 0 + 1 * n.val = n.val; omega

theorem emb_rW (c : Fin 8) (p : Fin 512) (n : Fin 512) : (rW c).emb (ix3 0 p n) = ix3 c p n := by
  funext a; apply Fin.ext; rw [Rect.emb_apply]
  match a with
  | ⟨0, _⟩ => show c.val + 1 * 0 = c.val; omega
  | ⟨1, _⟩ => show 0 + 1 * p.val = p.val; omega
  | ⟨2, _⟩ => show 0 + 1 * n.val = n.val; omega
theorem emb_rWin (c : Fin 8) (p : Fin 256) (n : Fin 512) : (rWin c).emb (ix3 0 p n) = ix3 c p n := by
  funext a; apply Fin.ext; rw [Rect.emb_apply]
  match a with
  | ⟨0, _⟩ => show c.val + 1 * 0 = c.val; omega
  | ⟨1, _⟩ => show 0 + 1 * p.val = p.val; omega
  | ⟨2, _⟩ => show 0 + 1 * n.val = n.val; omega
theorem emb_rV (c : Fin 8) (p : Fin 1) (n : Fin 512) : (rV c).emb (ix3 0 p n) = ix3 c p n := by
  funext a; apply Fin.ext; rw [Rect.emb_apply]
  match a with
  | ⟨0, _⟩ => show c.val + 1 * 0 = c.val; omega
  | ⟨1, _⟩ => show 0 + 1 * p.val = p.val; omega
  | ⟨2, _⟩ => show 0 + 1 * n.val = n.val; omega
theorem emb_rWo (c : Fin 8) (p : Fin 512) (n : Fin 256) : (rWo c).emb (ix3 0 p n) = ix3 c p n := by
  funext a; apply Fin.ext; rw [Rect.emb_apply]
  match a with
  | ⟨0, _⟩ => show c.val + 1 * 0 = c.val; omega
  | ⟨1, _⟩ => show 0 + 1 * p.val = p.val; omega
  | ⟨2, _⟩ => show 0 + 1 * n.val = n.val; omega

/-- An index of the state lies in the rectangle of head `c` exactly when its head coordinate is that head. -/
theorem mem_rS (i : grid0.Coords) (c : Fin 8) (b : Fin 32) (u : Fin 16) (n : Fin 512) :
    ix3 b u n ∈ (rS i c).set ↔ u = row i c := by
  rw [Rect.mem_set_unit, off2_val]
  constructor
  · intro h
    have h1 := h 1
    have h2 : (row i c).val ≤ u.val ∧ u.val < (row i c).val + 1 := h1
    exact Fin.ext (by omega)
  · rintro rfl a
    match a with
    | ⟨0, _⟩ => exact ⟨Nat.zero_le _, by show b.val < 0 + 32; omega⟩
    | ⟨1, _⟩ => exact ⟨Nat.le_refl _, by show (row i c).val < (row i c).val + 1; omega⟩
    | ⟨2, _⟩ => exact ⟨Nat.zero_le _, by show n.val < 0 + 512; omega⟩

theorem mem_rX (i : grid0.Coords) (c : Fin 8) (b : Fin 32) (u : Fin 16) (n : Fin 256) :
    ix3 b u n ∈ (rX i c).set ↔ u = row i c := by
  rw [Rect.mem_set_unit, off1_val]
  constructor
  · intro h
    have h1 := h 1
    have h2 : (row i c).val ≤ u.val ∧ u.val < (row i c).val + 1 := h1
    exact Fin.ext (by omega)
  · rintro rfl a
    match a with
    | ⟨0, _⟩ => exact ⟨Nat.zero_le _, by show b.val < 0 + 32; omega⟩
    | ⟨1, _⟩ => exact ⟨Nat.le_refl _, by show (row i c).val < (row i c).val + 1; omega⟩
    | ⟨2, _⟩ => exact ⟨Nat.zero_le _, by show n.val < 0 + 256; omega⟩

theorem row_inj (i : grid0.Coords) {c c' : Fin 8} (h : row i c = row i c') : c = c' := by
  have := congrArg Fin.val h
  exact Fin.ext (by simp only [row] at this; omega)

section Stores
variable {sig' : RefSig} {κ : Kind} {sp : Space}

/-- The head coordinate picked out by a list of writes, one per head in the list: the element is the payload of its
    head where its head is in the list, and the old contents elsewhere. -/
theorem read_heads_S (v : View sig' κ sp S32x16x512 .f32) (f : v.ty.Contents (Elt F)) (i : grid0.Coords)
    (P : Fin 8 → FVec F S32x1x512 .f32) (b : Fin 32) (u : Fin 16) (n : Fin 512) : ∀ l : List (Fin 8),
    (∀ c ∈ l, u = row i c → v.read (Elt F) (v.writes (Elt F) f (l.map fun c => ⟨rS i c, P c⟩)) (ix3 b u n) = P c (ix3 b 0 n))
      ∧ ((∀ c ∈ l, u ≠ row i c) → v.read (Elt F) (v.writes (Elt F) f (l.map fun c => ⟨rS i c, P c⟩)) (ix3 b u n) = v.read (Elt F) f (ix3 b u n))
  | [] => ⟨fun c h => absurd h List.not_mem_nil, fun _ => rfl⟩
  | d :: l => by
    obtain ⟨h1, h2⟩ := read_heads_S v f i P b u n l
    have hoff : u ≠ row i d → v.read (Elt F) (v.writes (Elt F) f ((d :: l).map fun c => ⟨rS i c, P c⟩)) (ix3 b u n)
        = v.read (Elt F) (v.writes (Elt F) f (l.map fun c => ⟨rS i c, P c⟩)) (ix3 b u n) := by
      intro hne
      rw [List.map_cons, View.writes_cons, View.read_slice_write_of_not_mem]
      rw [Rect.map_emb_univ, mem_rS]; exact hne
    constructor
    · intro c hc hu
      by_cases hd : u = row i d
      · obtain rfl : c = d := row_inj i (hu.symm.trans hd)
        subst hu
        rw [List.map_cons, ← emb_rS i c b n]
        exact View.read_writes_cons_emb _ _ _ _ _ _
      · rw [hoff hd]
        rcases List.mem_cons.mp hc with rfl | hc
        · exact absurd hu hd
        · exact h1 c hc hu
    · intro h
      rw [hoff (h d List.mem_cons_self)]
      exact h2 fun c hc => h c (List.mem_cons_of_mem _ hc)

theorem read_heads_X (v : View sig' κ sp S32x16x256 .f32) (f : v.ty.Contents (Elt F)) (i : grid0.Coords)
    (P : Fin 8 → FVec F S32x1x256 .f32) (b : Fin 32) (u : Fin 16) (n : Fin 256) : ∀ l : List (Fin 8),
    (∀ c ∈ l, u = row i c → v.read (Elt F) (v.writes (Elt F) f (l.map fun c => ⟨rX i c, P c⟩)) (ix3 b u n) = P c (ix3 b 0 n))
      ∧ ((∀ c ∈ l, u ≠ row i c) → v.read (Elt F) (v.writes (Elt F) f (l.map fun c => ⟨rX i c, P c⟩)) (ix3 b u n) = v.read (Elt F) f (ix3 b u n))
  | [] => ⟨fun c h => absurd h List.not_mem_nil, fun _ => rfl⟩
  | d :: l => by
    obtain ⟨h1, h2⟩ := read_heads_X v f i P b u n l
    have hoff : u ≠ row i d → v.read (Elt F) (v.writes (Elt F) f ((d :: l).map fun c => ⟨rX i c, P c⟩)) (ix3 b u n)
        = v.read (Elt F) (v.writes (Elt F) f (l.map fun c => ⟨rX i c, P c⟩)) (ix3 b u n) := by
      intro hne
      rw [List.map_cons, View.writes_cons, View.read_slice_write_of_not_mem]
      rw [Rect.map_emb_univ, mem_rX]; exact hne
    constructor
    · intro c hc hu
      by_cases hd : u = row i d
      · obtain rfl : c = d := row_inj i (hu.symm.trans hd)
        subst hu
        rw [List.map_cons, ← emb_rX i c b n]
        exact View.read_writes_cons_emb _ _ _ _ _ _
      · rw [hoff hd]
        rcases List.mem_cons.mp hc with rfl | hc
        · exact absurd hu hd
        · exact h1 c hc hu
    · intro h
      rw [hoff (h d List.mem_cons_self)]
      exact h2 fun c hc => h c (List.mem_cons_of_mem _ hc)

end Stores

/-! Loads and stores of a whole buffer. -/

theorem ld_x (X : Vec F S32x16x256 .f32) (h) : View.ld X (Rect.unit ![0, 0, 0] S32x16x256.size h) = X :=
  View.ld_unit_zero (by funext a; match a with | ⟨0, _⟩ => rfl | ⟨1, _⟩ => rfl | ⟨2, _⟩ => rfl) _ _
theorem ld_alr (X : Vec F S16x256 .f32) (h) : View.ld X (Rect.unit ![0, 0] S16x256.size h) = X :=
  View.ld_unit_zero (by funext a; match a with | ⟨0, _⟩ => rfl | ⟨1, _⟩ => rfl) _ _
theorem ld_temp (X : Vec F S1x1 .f32) (h) : View.ld X (Rect.unit ![0, 0] S1x1.size h) = X :=
  View.ld_unit_zero (by funext a; match a with | ⟨0, _⟩ => rfl | ⟨1, _⟩ => rfl) _ _
theorem ld_lr (X : Vec F S32x16 .f32) (h) : View.ld X (Rect.unit ![0, 0] S32x16.size h) = X :=
  View.ld_unit_zero (by funext a; match a with | ⟨0, _⟩ => rfl | ⟨1, _⟩ => rfl) _ _

theorem read_writes_lr {sig' : RefSig} {κ : Kind} {sp : Space} (v : View sig' κ sp S32x16 .f32) (f : v.ty.Contents (Elt F))
    (w : Vec F S32x16 .f32) :
    v.read (Elt F) (v.writes (Elt F) f [⟨Rect.unit ![0, 0] S32x16.size inb_S32x16_S32x16_0_0, w⟩]) = w := by
  funext y
  have e : (Rect.unit (s := S32x16) ![0, 0] S32x16.size inb_S32x16_S32x16_0_0).emb y = y := by
    funext a; apply Fin.ext; rw [Rect.emb_apply]
    match a with
    | ⟨0, _⟩ => show 0 + 1 * (y 0).val = (y 0).val; omega
    | ⟨1, _⟩ => show 0 + 1 * (y 1).val = (y 1).val; omega
  conv_lhs => rw [← e]
  exact View.read_writes_cons_emb _ _ _ _ _ _

/-- The eight places of a block, last first: the order of the stores, latest first. -/
abbrev places : List (Fin 8) := [7, 6, 5, 4, 3, 2, 1, 0]

theorem mem_places (c : Fin 8) : c ∈ places := by revert c; decide

/-- What head `c` of point `i` stores into the new state, from the staged blocks. -/
def newAt (i : grid0.Coords) (L : Vec F S32x16 .f32) (x0 : Vec F S32x16x256 .f32) (x1 : Vec F S32x16x512 .f32)
    (x2 : Vec F S8x512x512 .f32) (x3 : Vec F S8x256x512 .f32) (x4 x5 : Vec F S8x1x512 .f32) (c : Fin 8) : FVec F S32x1x512 .f32 :=
  headNew i c L (View.ld x0 (rX i c)) (View.ld x1 (rS i c)) (View.ld x3 (rWin c)) (View.ld x2 (rW c)) (View.ld x5 (rV c)) (View.ld x4 (rV c))

/-- What head `c` of point `i` stores into the output, from the staged blocks. -/
def outAt (i : grid0.Coords) (L : Vec F S32x16 .f32) (x0 : Vec F S32x16x256 .f32) (x1 : Vec F S32x16x512 .f32)
    (x2 : Vec F S8x512x512 .f32) (x3 : Vec F S8x256x512 .f32) (x4 x5 : Vec F S8x1x512 .f32) (x6 : Vec F S8x512x256 .f32)
    (c : Fin 8) : FVec F S32x1x256 .f32 :=
  headOut i c L (View.ld x0 (rX i c)) (View.ld x1 (rS i c)) (View.ld x3 (rWin c)) (View.ld x2 (rW c)) (View.ld x5 (rV c)) (View.ld x4 (rV c)) (View.ld x6 (rWo c))

/-- A state buffer changed at the heads of point `i` to the payloads `P`, and nowhere else. -/
def StepS (i : grid0.Coords) (P : Fin 8 → FVec F S32x1x512 .f32) (Y X : Vec F S32x16x512 .f32) : Prop :=
  ∀ (b : Fin 32) (u : Fin 16) (n : Fin 512),
    (∀ c, u = row i c → X (ix3 b u n) = P c (ix3 b 0 n)) ∧ ((∀ c, u ≠ row i c) → X (ix3 b u n) = Y (ix3 b u n))

/-- The same of an output buffer. -/
def StepX (i : grid0.Coords) (P : Fin 8 → FVec F S32x1x256 .f32) (Y X : Vec F S32x16x256 .f32) : Prop :=
  ∀ (b : Fin 32) (u : Fin 16) (n : Fin 256),
    (∀ c, u = row i c → X (ix3 b u n) = P c (ix3 b 0 n)) ∧ ((∀ c, u ≠ row i c) → X (ix3 b u n) = Y (ix3 b u n))

section
variable {sig' : RefSig} {κ : Kind} {sp : Space}

theorem stepS_writes (v : View sig' κ sp S32x16x512 .f32) (f : v.ty.Contents (Elt F)) (i : grid0.Coords)
    (P : Fin 8 → FVec F S32x1x512 .f32) (W : List (View.Piece (Elt F) S32x16x512 .f32))
    (hW : W = places.map fun c => ⟨rS i c, P c⟩) :
    StepS i P (v.read (Elt F) f) (v.read (Elt F) (v.writes (Elt F) f W)) := by
  subst hW
  intro b u n
  obtain ⟨h1, h2⟩ := read_heads_S v f i P b u n places
  exact ⟨fun c hc => h1 c (mem_places c) hc, fun h => h2 fun c _ => h c⟩

theorem stepX_writes (v : View sig' κ sp S32x16x256 .f32) (f : v.ty.Contents (Elt F)) (i : grid0.Coords)
    (P : Fin 8 → FVec F S32x1x256 .f32) (W : List (View.Piece (Elt F) S32x16x256 .f32))
    (hW : W = places.map fun c => ⟨rX i c, P c⟩) :
    StepX i P (v.read (Elt F) f) (v.read (Elt F) (v.writes (Elt F) f W)) := by
  subst hW
  intro b u n
  obtain ⟨h1, h2⟩ := read_heads_X v f i P b u n places
  exact ⟨fun c hc => h1 c (mem_places c) hc, fun h => h2 fun c _ => h c⟩

end

end Cert.KernelIdeal.Hand

end
-- ==== Proof.HeadForms.lean ====
module

public import proofs.«01_k».proof.Proof.Heads

@[expose] public section

/-!
# The eight heads compute one function

The printed body cuts each head's computation into named pieces differently. Put together, the pieces of head
`c` are `headNew` and `headOut` at `c`.
-/

set_option maxRecDepth 16384

noncomputable section

namespace Cert.KernelIdeal.Hand

open Cert.KernelIdeal.Gen
open Idealize.ShloMosaic Idealize.ShloMosaic.TcCoe

variable {F : FTy → Type} [FloatOps F]
variable (i : grid0.Coords) (L : Vec F S32x16 .f32) (x : Vec F S32x1x256 .f32) (s : Vec F S32x1x512 .f32)
  (win : Vec F S1x256x512 .f32) (w : Vec F S1x512x512 .f32) (sr b : Vec F S1x1x512 .f32) (wo : Vec F S1x512x256 .f32)

theorem new_0 : k0_pay11 (k0_pay5 i L) (k0_pay6 s) (k0_pay7 x win) (k0_pay8 s w sr) (k0_pay9 b) = headNew i 0 L x s win w sr b := rfl
theorem new_1 : k0_pay17 (k0_pay13 (BitVec.ofNat 32 (i 0).val) L) (k0_pay14 x) (k0_pay15 s) win w sr b = headNew i 1 L x s win w sr b := rfl
theorem new_2 : k0_pay24 (k0_pay21 (base i) 2#32 L s) (k0_pay22 (base i) 2#32 L x s win w sr b) = headNew i 2 L x s win w sr b := rfl
theorem new_3 : k0_pay31 (k0_pay26 (BitVec.ofNat 32 (i 0).val) L) (k0_pay27 s) (k0_pay28 x win) (k0_pay29 w) sr b = headNew i 3 L x s win w sr b := rfl
theorem new_4 : k0_pay35 (k0_pay33 (BitVec.ofNat 32 (i 0).val) L) x s win w sr b = headNew i 4 L x s win w sr b := rfl
theorem new_5 : k0_pay42 (k0_pay37 (BitVec.ofNat 32 (i 0).val) L) (k0_pay38 s) (k0_pay39 x win) (k0_pay40 s w sr) b = headNew i 5 L x s win w sr b := rfl
theorem new_6 : k0_pay47 (k0_pay44 (BitVec.ofNat 32 (i 0).val) L) (k0_pay45 x) s win w sr b = headNew i 6 L x s win w sr b := rfl
theorem new_7 : k0_pay2 (k0_pay50 (BitVec.ofNat 32 (i 0).val) L) (k0_pay51 s) (k0_pay52 x win) (k0_pay53 s w sr b) (k0_pay54 (BitVec.ofNat 32 (i 0).val) L) = headNew i 7 L x s win w sr b := rfl
theorem out_0 : k0_pay12 (k0_pay5 i L) (k0_pay6 s) (k0_pay7 x win) (k0_pay8 s w sr) (k0_pay9 b) wo = headOut i 0 L x s win w sr b wo := rfl
theorem out_1 : k0_pay18 (k0_pay13 (BitVec.ofNat 32 (i 0).val) L) (k0_pay14 x) (k0_pay15 s) win w sr b wo = headOut i 1 L x s win w sr b wo := rfl
theorem out_2 : k0_pay25 (k0_pay21 (base i) 2#32 L s) (k0_pay22 (base i) 2#32 L x s win w sr b) wo = headOut i 2 L x s win w sr b wo := rfl
theorem out_3 : k0_pay32 (k0_pay26 (BitVec.ofNat 32 (i 0).val) L) (k0_pay27 s) (k0_pay28 x win) (k0_pay29 w) sr b wo = headOut i 3 L x s win w sr b wo := rfl
theorem out_4 : k0_pay36 (k0_pay34 (k0_pay33 (BitVec.ofNat 32 (i 0).val) L) x s win w sr b) wo = headOut i 4 L x s win w sr b wo := rfl
theorem out_5 : k0_pay43 (k0_pay37 (BitVec.ofNat 32 (i 0).val) L) (k0_pay38 s) (k0_pay39 x win) (k0_pay40 s w sr) b wo = headOut i 5 L x s win w sr b wo := rfl
theorem out_6 : k0_pay49 (k0_pay48 (k0_pay44 (BitVec.ofNat 32 (i 0).val) L) (k0_pay45 x) s win w sr b wo) = headOut i 6 L x s win w sr b wo := rfl
theorem out_7 : k0_pay3 (k0_pay50 (BitVec.ofNat 32 (i 0).val) L) (k0_pay51 s) (k0_pay52 x win) (k0_pay53 s w sr b) (k0_pay54 (BitVec.ofNat 32 (i 0).val) L) wo = headOut i 7 L x s win w sr b wo := rfl

/-- Loads of whole staging buffers at known contents: the head's value from the staged blocks. -/
theorem newAt_of (i : grid0.Coords) (c : Fin 8) {arg1 : Memref sig .tc .vmem S32x16x256 .f32} (harg1 : arg1.IsWhole) {arg2 : Memref sig .tc .vmem S32x16x512 .f32} (harg2 : arg2.IsWhole) {arg3 : Memref sig .tc .vmem S8x512x512 .f32} (harg3 : arg3.IsWhole) {arg4 : Memref sig .tc .vmem S8x256x512 .f32} (harg4 : arg4.IsWhole) {arg5 : Memref sig .tc .vmem S8x1x512 .f32} (harg5 : arg5.IsWhole) {arg6 : Memref sig .tc .vmem S8x1x512 .f32} (harg6 : arg6.IsWhole)
    (L : Vec F S32x16 .f32) (x0 : Vec F S32x16x256 .f32) (x1 : Vec F S32x16x512 .f32) (x2 : Vec F S8x512x512 .f32) (x3 : Vec F S8x256x512 .f32) (x4 : Vec F S8x1x512 .f32) (x5 : Vec F S8x1x512 .f32) {L' : Vec F S32x16 .f32} (hL : L' = L) :
    headNew i c L' (View.readAt (Elt F) arg1.view (rX i c).toLoadRect (harg1.unread x0)) (View.readAt (Elt F) arg2.view (rS i c).toLoadRect (harg2.unread x1)) (View.readAt (Elt F) arg4.view (rWin c).toLoadRect (harg4.unread x3)) (View.readAt (Elt F) arg3.view (rW c).toLoadRect (harg3.unread x2)) (View.readAt (Elt F) arg6.view (rV c).toLoadRect (harg6.unread x5)) (View.readAt (Elt F) arg5.view (rV c).toLoadRect (harg5.unread x4)) = newAt i L x0 x1 x2 x3 x4 x5 c := by
  subst hL; simp only [newAt, View.readAt_eq_ld, harg1.read_unread, harg2.read_unread, harg3.read_unread, harg4.read_unread, harg5.read_unread, harg6.read_unread]

/-- Loads of whole staging buffers at known contents: the head's value from the staged blocks. -/
theorem outAt_of (i : grid0.Coords) (c : Fin 8) {arg1 : Memref sig .tc .vmem S32x16x256 .f32} (harg1 : arg1.IsWhole) {arg2 : Memref sig .tc .vmem S32x16x512 .f32} (harg2 : arg2.IsWhole) {arg3 : Memref sig .tc .vmem S8x512x512 .f32} (harg3 : arg3.IsWhole) {arg4 : Memref sig .tc .vmem S8x256x512 .f32} (harg4 : arg4.IsWhole) {arg5 : Memref sig .tc .vmem S8x1x512 .f32} (harg5 : arg5.IsWhole) {arg6 : Memref sig .tc .vmem S8x1x512 .f32} (harg6 : arg6.IsWhole) {arg7 : Memref sig .tc .vmem S8x512x256 .f32} (harg7 : arg7.IsWhole)
    (L : Vec F S32x16 .f32) (x0 : Vec F S32x16x256 .f32) (x1 : Vec F S32x16x512 .f32) (x2 : Vec F S8x512x512 .f32) (x3 : Vec F S8x256x512 .f32) (x4 : Vec F S8x1x512 .f32) (x5 : Vec F S8x1x512 .f32) (x6 : Vec F S8x512x256 .f32) {L' : Vec F S32x16 .f32} (hL : L' = L) :
    headOut i c L' (View.readAt (Elt F) arg1.view (rX i c).toLoadRect (harg1.unread x0)) (View.readAt (Elt F) arg2.view (rS i c).toLoadRect (harg2.unread x1)) (View.readAt (Elt F) arg4.view (rWin c).toLoadRect (harg4.unread x3)) (View.readAt (Elt F) arg3.view (rW c).toLoadRect (harg3.unread x2)) (View.readAt (Elt F) arg6.view (rV c).toLoadRect (harg6.unread x5)) (View.readAt (Elt F) arg5.view (rV c).toLoadRect (harg5.unread x4)) (View.readAt (Elt F) arg7.view (rWo c).toLoadRect (harg7.unread x6)) = outAt i L x0 x1 x2 x3 x4 x5 x6 c := by
  subst hL; simp only [outAt, View.readAt_eq_ld, harg1.read_unread, harg2.read_unread, harg3.read_unread, harg4.read_unread, harg5.read_unread, harg6.read_unread, harg7.read_unread]

/-- The table of leak rates, from loads of the whole inputs it is computed from. -/
theorem lr_loads {arg1 : Memref sig .tc .vmem S32x16x256 .f32} (harg1 : arg1.IsWhole) {arg8 : Memref sig .tc .vmem S16x256 .f32} (harg8 : arg8.IsWhole) {arg9 : Memref sig .tc .vmem S1x1 .f32} (harg9 : arg9.IsWhole)
    (x0 : Vec F S32x16x256 .f32) (x7 : Vec F S16x256 .f32) (x8 : Vec F S1x1 .f32) :
    k0_pay4 (View.readAt (Elt F) arg1.view (Rect.unit ![0, 0, 0] S32x16x256.size inb_S32x16x256_S32x16x256_0_0_0).toLoadRect (harg1.unread x0)) (View.readAt (Elt F) arg8.view (Rect.unit ![0, 0] S16x256.size inb_S16x256_S16x256_0_0).toLoadRect (harg8.unread x7)) (View.readAt (Elt F) arg9.view (Rect.unit ![0, 0] S1x1.size inb_S1x1_S1x1_0_0).toLoadRect (harg9.unread x8)) = k0_pay4 x0 x7 x8 := by
  rw [View.readAt_eq_ld, View.readAt_eq_ld, View.readAt_eq_ld, harg1.read_unread, harg8.read_unread, harg9.read_unread, ld_x, ld_alr, ld_temp]

/-- The table of leak rates read back from the scratch after the store that filled it. -/
theorem lr_back {sig' : RefSig} {κ : Kind} {sp : Space} (v : View sig' κ sp S32x16 .f32) {arg1 : Memref sig .tc .vmem S32x16x256 .f32} (harg1 : arg1.IsWhole) {arg8 : Memref sig .tc .vmem S16x256 .f32} (harg8 : arg8.IsWhole) {arg9 : Memref sig .tc .vmem S1x1 .f32} (harg9 : arg9.IsWhole)
    (x0 : Vec F S32x16x256 .f32) (x7 : Vec F S16x256 .f32) (x8 : Vec F S1x1 .f32) :
    v.readCov (Val := Elt F) [⟨Rect.unit ![0, 0] S32x16.size inb_S32x16_S32x16_0_0, k0_pay4 (View.readAt (Elt F) arg1.view (Rect.unit ![0, 0, 0] S32x16x256.size inb_S32x16x256_S32x16x256_0_0_0).toLoadRect (harg1.unread x0)) (View.readAt (Elt F) arg8.view (Rect.unit ![0, 0] S16x256.size inb_S16x256_S16x256_0_0).toLoadRect (harg8.unread x7)) (View.readAt (Elt F) arg9.view (Rect.unit ![0, 0] S1x1.size inb_S1x1_S1x1_0_0).toLoadRect (harg9.unread x8))⟩] (Rect.unit ![0, 0] S32x16.size inb_S32x16_S32x16_0_0).toLoadRect = k0_pay4 x0 x7 x8 :=
  (View.readCov_cons_toLoadRect (Val := Elt F) v _ _ _).trans (lr_loads harg1 harg8 harg9 x0 x7 x8)

/-- The table of leak rates read from the scratch where it was left. -/
theorem lr_read {arg12 : Memref sig .tc .vmem S32x16 .f32} (harg12 : arg12.IsWhole) (L : Vec F S32x16 .f32) :
    View.readAt (Elt F) arg12.view (Rect.unit ![0, 0] S32x16.size inb_S32x16_S32x16_0_0).toLoadRect (harg12.unread L) = L := by
  rw [View.readAt_eq_ld, harg12.read_unread, ld_lr]

end Cert.KernelIdeal.Hand

end
-- ==== Proof.RunA.lean ====
module

public import proofs.«01_k».proof.Proof.HeadForms

@[expose] public section

/-!
# One grid point of the kernel, first case

At the first point the table of leak rates is computed into the scratch, then the eight heads run.
-/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The condition of the body's one branch: the grid coordinate is zero. -/
abbrev condFirst (i : grid0.Coords) : Prop := (Scalar.cmpi .ne (Scalar.extui (Scalar.cmpi .eq (BitVec.ofNat 32 (i 0).val) 0#32)) 0#32) = 1#1

set_option maxHeartbeats 1000000 in
/-- The body's triple at the first point: the inputs are handed back as they were, each output changed at the eight
    heads of the point and nowhere else, the scratch at the table of leak rates. -/
theorem runA (c : Dev nD) (i : grid0.Coords) (arg1 : Memref sig .tc .vmem S32x16x256 .f32) (harg1 : arg1.IsWhole) (arg2 : Memref sig .tc .vmem S32x16x512 .f32) (harg2 : arg2.IsWhole) (arg3 : Memref sig .tc .vmem S8x512x512 .f32) (harg3 : arg3.IsWhole) (arg4 : Memref sig .tc .vmem S8x256x512 .f32) (harg4 : arg4.IsWhole) (arg5 : Memref sig .tc .vmem S8x1x512 .f32) (harg5 : arg5.IsWhole) (arg6 : Memref sig .tc .vmem S8x1x512 .f32) (harg6 : arg6.IsWhole) (arg7 : Memref sig .tc .vmem S8x512x256 .f32) (harg7 : arg7.IsWhole) (arg8 : Memref sig .tc .vmem S16x256 .f32) (harg8 : arg8.IsWhole) (arg9 : Memref sig .tc .vmem S1x1 .f32) (harg9 : arg9.IsWhole) (arg10 : Memref sig .tc .vmem S32x16x512 .f32) (harg10 : arg10.IsWhole) (arg11 : Memref sig .tc .vmem S32x16x256 .f32) (harg11 : arg11.IsWhole) (arg12 : Memref sig .tc .vmem S32x16 .f32) (harg12 : arg12.IsWhole) (hc0 : condFirst i)
    (x0 : Vec F S32x16x256 .f32) (x1 : Vec F S32x16x512 .f32) (x2 : Vec F S8x512x512 .f32) (x3 : Vec F S8x256x512 .f32) (x4 : Vec F S8x1x512 .f32) (x5 : Vec F S8x1x512 .f32) (x6 : Vec F S8x512x256 .f32) (x7 : Vec F S16x256 .f32) (x8 : Vec F S1x1 .f32)
    (y9 : Vec F S32x16x512 .f32) (y10 : Vec F S32x16x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y9 ∗ owns (c : Thread nD τ) arg11 fullShare y10 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, ⌜StepS i (newAt i (k0_pay4 x0 x7 x8) x0 x1 x2 x3 x4 x5) y9 d⌝ ∗ owns (c : Thread nD τ) arg10 fullShare d) ∗ (∃ d, ⌜StepX i (outAt i (k0_pay4 x0 x7 x8) x0 x1 x2 x3 x4 x5 x6) y10 d⌝ ∗ owns (c : Thread nD τ) arg11 fullShare d) ∗ owns (c : Thread nD τ) arg12 fullShare (k0_pay4 x0 x7 x8)) -∗ K ⟨⟩))
          ⊢ wp frame (wpE (defs₀ (F := F)) Variants.none c none) E (cc0__res_step_kernel i arg1 harg1 arg2 harg2 arg3 harg3 arg4 harg4 arg5 harg5 arg6 harg6 arg7 harg7 arg8 harg8 arg9 harg9 arg10 harg10 arg11 harg11 arg12 harg12) K := by
    intro E K
    simp only [cc0__res_step_kernel_eq_skeleton]; unfold cc0__res_step_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; swap
      · iexists _; isplitr; swap; · iexact H9
        ipureintro; rfl
      ipureintro; rw [← hf9]; refine stepS_writes _ _ _ _ _ ?_
      refine List.cons_eq_cons.mpr ⟨congrArg (Sigma.mk (rS i 7)) ((new_7 i _ _ _ _ _ _ _).trans (newAt_of i 7 harg1 harg2 harg3 harg4 harg5 harg6 _ _ _ _ _ _ _ (lr_back arg12.view harg1 harg8 harg9 x0 x7 x8))), ?_⟩
      refine List.cons_eq_cons.mpr ⟨congrArg (Sigma.mk (rS i 6)) ((new_6 i _ _ _ _ _ _ _).trans (newAt_of i 6 harg1 harg2 harg3 harg4 harg5 harg6 _ _ _ _ _ _ _ (lr_back arg12.view harg1 harg8 harg9 x0 x7 x8))), ?_⟩
      refine List.cons_eq_cons.mpr ⟨congrArg (Sigma.mk (rS i 5)) ((new_5 i _ _ _ _ _ _ _).trans (newAt_of i 5 harg1 harg2 harg3 harg4 harg5 harg6 _ _ _ _ _ _ _ (lr_back arg12.view harg1 harg8 harg9 x0 x7 x8))), ?_⟩
      refine List.cons_eq_cons.mpr ⟨congrArg (Sigma.mk (rS i 4)) ((new_4 i _ _ _ _ _ _ _).trans (newAt_of i 4 harg1 harg2 harg3 harg4 harg5 harg6 _ _ _ _ _ _ _ (lr_back arg12.view harg1 harg8 harg9 x0 x7 x8))), ?_⟩
      refine List.cons_eq_cons.mpr ⟨congrArg (Sigma.mk (rS i 3)) ((new_3 i _ _ _ _ _ _ _).trans (newAt_of i 3 harg1 harg2 harg3 harg4 harg5 harg6 _ _ _ _ _ _ _ (lr_back arg12.view harg1 harg8 harg9 x0 x7 x8))), ?_⟩
      refine List.cons_eq_cons.mpr ⟨congrArg (Sigma.mk (rS i 2)) ((new_2 i _ _ _ _ _ _ _).trans (newAt_of i 2 harg1 harg2 harg3 harg4 harg5 harg6 _ _ _ _ _ _ _ (lr_back arg12.view harg1 harg8 harg9 x0 x7 x8))), ?_⟩
      refine List.cons_eq_cons.mpr ⟨congrArg (Sigma.mk (rS i 1)) ((new_1 i _ _ _ _ _ _ _).trans (newAt_of i 1 harg1 harg2 harg3 harg4 harg5 harg6 _ _ _ _ _ _ _ (lr_back arg12.view harg1 harg8 harg9 x0 x7 x8))), ?_⟩
      refine List.cons_eq_cons.mpr ⟨congrArg (Sigma.mk (rS i 0)) ((new_0 i _ _ _ _ _ _ _).trans (newAt_of i 0 harg1 harg2 harg3 harg4 harg5 harg6 _ _ _ _ _ _ _ (lr_back arg12.view harg1 harg8 harg9 x0 x7 x8))), ?_⟩
      rfl
    isplitl [H10]
    · iexists _; isplitr; swap
      · iexists _; isplitr; swap; · iexact H10
        ipureintro; rfl
      ipureintro; rw [← hf10]; refine stepX_writes _ _ _ _ _ ?_
      refine List.cons_eq_cons.mpr ⟨congrArg (Sigma.mk (rX i 7)) ((out_7 i _ _ _ _ _ _ _ _).trans (outAt_of i 7 harg1 harg2 harg3 harg4 harg5 harg6 harg7 _ _ _ _ _ _ _ _ (lr_back arg12.view harg1 harg8 harg9 x0 x7 x8))), ?_⟩
      refine List.cons_eq_cons.mpr ⟨congrArg (Sigma.mk (rX i 6)) ((out_6 i _ _ _ _ _ _ _ _).trans (outAt_of i 6 harg1 harg2 harg3 harg4 harg5 harg6 harg7 _ _ _ _ _ _ _ _ (lr_back arg12.view harg1 harg8 harg9 x0 x7 x8))), ?_⟩
      refine List.cons_eq_cons.mpr ⟨congrArg (Sigma.mk (rX i 5)) ((out_5 i _ _ _ _ _ _ _ _).trans (outAt_of i 5 harg1 harg2 harg3 harg4 harg5 harg6 harg7 _ _ _ _ _ _ _ _ (lr_back arg12.view harg1 harg8 harg9 x0 x7 x8))), ?_⟩
      refine List.cons_eq_cons.mpr ⟨congrArg (Sigma.mk (rX i 4)) ((out_4 i _ _ _ _ _ _ _ _).trans (outAt_of i 4 harg1 harg2 harg3 harg4 harg5 harg6 harg7 _ _ _ _ _ _ _ _ (lr_back arg12.view harg1 harg8 harg9 x0 x7 x8))), ?_⟩
      refine List.cons_eq_cons.mpr ⟨congrArg (Sigma.mk (rX i 3)) ((out_3 i _ _ _ _ _ _ _ _).trans (outAt_of i 3 harg1 harg2 harg3 harg4 harg5 harg6 harg7 _ _ _ _ _ _ _ _ (lr_back arg12.view harg1 harg8 harg9 x0 x7 x8))), ?_⟩
      refine List.cons_eq_cons.mpr ⟨congrArg (Sigma.mk (rX i 2)) ((out_2 i _ _ _ _ _ _ _ _).trans (outAt_of i 2 harg1 harg2 harg3 harg4 harg5 harg6 harg7 _ _ _ _ _ _ _ _ (lr_back arg12.view harg1 harg8 harg9 x0 x7 x8))), ?_⟩
      refine List.cons_eq_cons.mpr ⟨congrArg (Sigma.mk (rX i 1)) ((out_1 i _ _ _ _ _ _ _ _).trans (outAt_of i 1 harg1 harg2 harg3 harg4 harg5 harg6 harg7 _ _ _ _ _ _ _ _ (lr_back arg12.view harg1 harg8 harg9 x0 x7 x8))), ?_⟩
      refine List.cons_eq_cons.mpr ⟨congrArg (Sigma.mk (rX i 0)) ((out_0 i _ _ _ _ _ _ _ _).trans (outAt_of i 0 harg1 harg2 harg3 harg4 harg5 harg6 harg7 _ _ _ _ _ _ _ _ (lr_back arg12.view harg1 harg8 harg9 x0 x7 x8))), ?_⟩
      rfl
    iexists _; isplitr; swap; · iexact HS0
    ipureintro
    exact (read_writes_lr _ _ _).trans (lr_loads harg1 harg8 harg9 x0 x7 x8)

end Cert.KernelIdeal.Hand

end
-- ==== Proof.RunB.lean ====
module

public import proofs.«01_k».proof.Proof.RunA

@[expose] public section

/-!
# One grid point of the kernel, other points

At a later point the table of leak rates is read back from the scratch.
-/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The body's triple at a later point: the inputs are handed back as they were, each output changed at the eight
    heads of the point and nowhere else, the scratch as it was. -/
theorem runB (c : Dev nD) (i : grid0.Coords) (arg1 : Memref sig .tc .vmem S32x16x256 .f32) (harg1 : arg1.IsWhole) (arg2 : Memref sig .tc .vmem S32x16x512 .f32) (harg2 : arg2.IsWhole) (arg3 : Memref sig .tc .vmem S8x512x512 .f32) (harg3 : arg3.IsWhole) (arg4 : Memref sig .tc .vmem S8x256x512 .f32) (harg4 : arg4.IsWhole) (arg5 : Memref sig .tc .vmem S8x1x512 .f32) (harg5 : arg5.IsWhole) (arg6 : Memref sig .tc .vmem S8x1x512 .f32) (harg6 : arg6.IsWhole) (arg7 : Memref sig .tc .vmem S8x512x256 .f32) (harg7 : arg7.IsWhole) (arg8 : Memref sig .tc .vmem S16x256 .f32) (harg8 : arg8.IsWhole) (arg9 : Memref sig .tc .vmem S1x1 .f32) (harg9 : arg9.IsWhole) (arg10 : Memref sig .tc .vmem S32x16x512 .f32) (harg10 : arg10.IsWhole) (arg11 : Memref sig .tc .vmem S32x16x256 .f32) (harg11 : arg11.IsWhole) (arg12 : Memref sig .tc .vmem S32x16 .f32) (harg12 : arg12.IsWhole) (hc0 : ¬ condFirst i)
    (x0 : Vec F S32x16x256 .f32) (x1 : Vec F S32x16x512 .f32) (x2 : Vec F S8x512x512 .f32) (x3 : Vec F S8x256x512 .f32) (x4 : Vec F S8x1x512 .f32) (x5 : Vec F S8x1x512 .f32) (x6 : Vec F S8x512x256 .f32) (x7 : Vec F S16x256 .f32) (x8 : Vec F S1x1 .f32)
    (y9 : Vec F S32x16x512 .f32) (y10 : Vec F S32x16x256 .f32) (L : Vec F S32x16 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y9 ∗ owns (c : Thread nD τ) arg11 fullShare y10 ∗ owns (c : Thread nD τ) arg12 fullShare L
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, ⌜StepS i (newAt i L x0 x1 x2 x3 x4 x5) y9 d⌝ ∗ owns (c : Thread nD τ) arg10 fullShare d) ∗ (∃ d, ⌜StepX i (outAt i L x0 x1 x2 x3 x4 x5 x6) y10 d⌝ ∗ owns (c : Thread nD τ) arg11 fullShare d) ∗ owns (c : Thread nD τ) arg12 fullShare L) -∗ K ⟨⟩))
          ⊢ wp frame (wpE (defs₀ (F := F)) Variants.none c none) E (cc0__res_step_kernel i arg1 harg1 arg2 harg2 arg3 harg3 arg4 harg4 arg5 harg5 arg6 harg6 arg7 harg7 arg8 harg8 arg9 harg9 arg10 harg10 arg11 harg11 arg12 harg12) K := by
    intro E K
    simp only [cc0__res_step_kernel_eq_skeleton]; unfold cc0__res_step_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; swap
      · iexists _; isplitr; swap; · iexact H9
        ipureintro; rfl
      ipureintro; rw [← hf9]; refine stepS_writes _ _ _ _ _ ?_
      refine List.cons_eq_cons.mpr ⟨congrArg (Sigma.mk (rS i 7)) ((new_7 i _ _ _ _ _ _ _).trans (newAt_of i 7 harg1 harg2 harg3 harg4 harg5 harg6 _ _ _ _ _ _ _ (lr_read harg12 L))), ?_⟩
      refine List.cons_eq_cons.mpr ⟨congrArg (Sigma.mk (rS i 6)) ((new_6 i _ _ _ _ _ _ _).trans (newAt_of i 6 harg1 harg2 harg3 harg4 harg5 harg6 _ _ _ _ _ _ _ (lr_read harg12 L))), ?_⟩
      refine List.cons_eq_cons.mpr ⟨congrArg (Sigma.mk (rS i 5)) ((new_5 i _ _ _ _ _ _ _).trans (newAt_of i 5 harg1 harg2 harg3 harg4 harg5 harg6 _ _ _ _ _ _ _ (lr_read harg12 L))), ?_⟩
      refine List.cons_eq_cons.mpr ⟨congrArg (Sigma.mk (rS i 4)) ((new_4 i _ _ _ _ _ _ _).trans (newAt_of i 4 harg1 harg2 harg3 harg4 harg5 harg6 _ _ _ _ _ _ _ (lr_read harg12 L))), ?_⟩
      refine List.cons_eq_cons.mpr ⟨congrArg (Sigma.mk (rS i 3)) ((new_3 i _ _ _ _ _ _ _).trans (newAt_of i 3 harg1 harg2 harg3 harg4 harg5 harg6 _ _ _ _ _ _ _ (lr_read harg12 L))), ?_⟩
      refine List.cons_eq_cons.mpr ⟨congrArg (Sigma.mk (rS i 2)) ((new_2 i _ _ _ _ _ _ _).trans (newAt_of i 2 harg1 harg2 harg3 harg4 harg5 harg6 _ _ _ _ _ _ _ (lr_read harg12 L))), ?_⟩
      refine List.cons_eq_cons.mpr ⟨congrArg (Sigma.mk (rS i 1)) ((new_1 i _ _ _ _ _ _ _).trans (newAt_of i 1 harg1 harg2 harg3 harg4 harg5 harg6 _ _ _ _ _ _ _ (lr_read harg12 L))), ?_⟩
      refine List.cons_eq_cons.mpr ⟨congrArg (Sigma.mk (rS i 0)) ((new_0 i _ _ _ _ _ _ _).trans (newAt_of i 0 harg1 harg2 harg3 harg4 harg5 harg6 _ _ _ _ _ _ _ (lr_read harg12 L))), ?_⟩
      rfl
    isplitl [H10]
    · iexists _; isplitr; swap
      · iexists _; isplitr; swap; · iexact H10
        ipureintro; rfl
      ipureintro; rw [← hf10]; refine stepX_writes _ _ _ _ _ ?_
      refine List.cons_eq_cons.mpr ⟨congrArg (Sigma.mk (rX i 7)) ((out_7 i _ _ _ _ _ _ _ _).trans (outAt_of i 7 harg1 harg2 harg3 harg4 harg5 harg6 harg7 _ _ _ _ _ _ _ _ (lr_read harg12 L))), ?_⟩
      refine List.cons_eq_cons.mpr ⟨congrArg (Sigma.mk (rX i 6)) ((out_6 i _ _ _ _ _ _ _ _).trans (outAt_of i 6 harg1 harg2 harg3 harg4 harg5 harg6 harg7 _ _ _ _ _ _ _ _ (lr_read harg12 L))), ?_⟩
      refine List.cons_eq_cons.mpr ⟨congrArg (Sigma.mk (rX i 5)) ((out_5 i _ _ _ _ _ _ _ _).trans (outAt_of i 5 harg1 harg2 harg3 harg4 harg5 harg6 harg7 _ _ _ _ _ _ _ _ (lr_read harg12 L))), ?_⟩
      refine List.cons_eq_cons.mpr ⟨congrArg (Sigma.mk (rX i 4)) ((out_4 i _ _ _ _ _ _ _ _).trans (outAt_of i 4 harg1 harg2 harg3 harg4 harg5 harg6 harg7 _ _ _ _ _ _ _ _ (lr_read harg12 L))), ?_⟩
      refine List.cons_eq_cons.mpr ⟨congrArg (Sigma.mk (rX i 3)) ((out_3 i _ _ _ _ _ _ _ _).trans (outAt_of i 3 harg1 harg2 harg3 harg4 harg5 harg6 harg7 _ _ _ _ _ _ _ _ (lr_read harg12 L))), ?_⟩
      refine List.cons_eq_cons.mpr ⟨congrArg (Sigma.mk (rX i 2)) ((out_2 i _ _ _ _ _ _ _ _).trans (outAt_of i 2 harg1 harg2 harg3 harg4 harg5 harg6 harg7 _ _ _ _ _ _ _ _ (lr_read harg12 L))), ?_⟩
      refine List.cons_eq_cons.mpr ⟨congrArg (Sigma.mk (rX i 1)) ((out_1 i _ _ _ _ _ _ _ _).trans (outAt_of i 1 harg1 harg2 harg3 harg4 harg5 harg6 harg7 _ _ _ _ _ _ _ _ (lr_read harg12 L))), ?_⟩
      refine List.cons_eq_cons.mpr ⟨congrArg (Sigma.mk (rX i 0)) ((out_0 i _ _ _ _ _ _ _ _).trans (outAt_of i 0 harg1 harg2 harg3 harg4 harg5 harg6 harg7 _ _ _ _ _ _ _ _ (lr_read harg12 L))), ?_⟩
      rfl
    iexists _; isplitr; swap; · iexact HS0
    ipureintro
    exact harg12.read_unread _

end Cert.KernelIdeal.Hand

end
-- ==== Proof.Body.lean ====
module

public import proofs.«01_k».proof.Proof.RunB
public import proofs.«01_k».proof.Proof.Gen.KernelIdeal.Frame

@[expose] public section

/-!
# The kernel's run over its two grid points

The two results are staged whole and written back once, after the last point; each point fills its own eight heads
of them. What a point leaves in the two buffers is therefore stated as a relation: the point's heads are at the
values of the step, the other heads are as the point found them. The table of leak rates, made at the first point, is
carried in the scratch to the second one.
-/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pieces the run is stated over -/

/-- The branch of the body is taken at the first point only. -/
theorem condFirst_iff : ∀ t : Fin grid0.N, condFirst (grid0.coords t) ↔ t.val % 2 = 0 := fun t => by
  have ht : t.val < 2 := Nat.lt_of_lt_of_eq t.isLt N_0
  have e0 : (grid0.coords t 0).val = t.val / 1 % 2 := Pipeline.Grid.coords_val t 0 (by decide) rfl
  simp only [condFirst, e0]
  word_cmp

/-- The scratch that carries the table of leak rates. -/
abbrev lrBuf : Memref sig .tc .vmem S32x16 .f32 := Memref.whole cc0_scratch0

/-- What the region hands over beside the windows: the scratch at some contents and the generator register. -/
theorem rest_eq (c : Dev nD) :
    (Pipeline.ΦA spec0 c : sProp 𝕄)
      = iprop(iprop((∃ d, owns (c : Thread nD τ) lrBuf fullShare d)) ∗ (∃ r, prngReg c r)) := by
  unfold Pipeline.ΦA; rw [scopedRest0_eq]; simp only [lrBuf, owns_whole]; try rfl

/-- The blocks of the inputs at a point, at their shapes. -/
abbrev b0 (c : Dev nD) (t : Fin cfg0.N) : Vec F S32x16x256 .f32 := iblk m c 0 t
abbrev b1 (c : Dev nD) (t : Fin cfg0.N) : Vec F S32x16x512 .f32 := iblk m c 1 t
abbrev b2 (c : Dev nD) (t : Fin cfg0.N) : Vec F S8x512x512 .f32 := iblk m c 2 t
abbrev b3 (c : Dev nD) (t : Fin cfg0.N) : Vec F S8x256x512 .f32 := iblk m c 3 t
abbrev b4 (c : Dev nD) (t : Fin cfg0.N) : Vec F S8x1x512 .f32 := iblk m c 4 t
abbrev b5 (c : Dev nD) (t : Fin cfg0.N) : Vec F S8x1x512 .f32 := iblk m c 5 t
abbrev b6 (c : Dev nD) (t : Fin cfg0.N) : Vec F S8x512x256 .f32 := iblk m c 6 t
abbrev b7 (c : Dev nD) (t : Fin cfg0.N) : Vec F S16x256 .f32 := iblk m c 7 t
abbrev b8 (c : Dev nD) (t : Fin cfg0.N) : Vec F S1x1 .f32 := iblk m c 8 t

/-- The table of leak rates: made from the inputs' blocks at the first point. -/
def lrTab (c : Dev nD) : Vec F S32x16 .f32 := k0_pay4 (b0 m c t0_0) (b7 m c t0_0) (b8 m c t0_0)

/-- The new state's values at a point's heads. -/
def newVals (c : Dev nD) (t : Fin cfg0.N) :=
  newAt (grid0.coords t) (lrTab m c) (b0 m c t) (b1 m c t) (b2 m c t) (b3 m c t) (b4 m c t) (b5 m c t)

/-- The output's values at a point's heads. -/
def outVals (c : Dev nD) (t : Fin cfg0.N) :=
  outAt (grid0.coords t) (lrTab m c) (b0 m c t) (b1 m c t) (b2 m c t) (b3 m c t) (b4 m c t) (b5 m c t) (b6 m c t)

/-- The invariant between points: before the first the scratch is at any contents, afterwards at the leak rates. -/
def carried (c : Dev nD) (n : Nat) : sProp 𝕄 :=
  if n = 0 then Pipeline.ΦA spec0 c
  else iprop(owns (c : Thread nD τ) lrBuf fullShare (lrTab m c) ∗ (∃ r, prngReg c r))

/-- The proof data: an input's buffer is left as found; a result's buffer is changed at the point's heads only. -/
def rd (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = Y
    | ⟨9, _⟩ => fun Y X => StepS (grid0.coords t) (newVals m c t) Y X
    | ⟨10, _⟩ => fun Y X => StepX (grid0.coords t) (outVals m c t) Y X
  Φ n := carried m c n.val
  q _ := fullShare
  owed _ := 0

theorem rd_A (c : Dev nD) (w : Fin cfg0.W) : (rd m c).A w = V m c (Pipeline.arrRef spec0 w) := by
  dsimp only [rd]

theorem after0 (c : Dev nD) (t : Fin cfg0.N) (Y X) : (rd m c).after 0 t Y X = (X = Y) := by dsimp only [rd]
theorem after1 (c : Dev nD) (t : Fin cfg0.N) (Y X) : (rd m c).after 1 t Y X = (X = Y) := by dsimp only [rd]
theorem after2 (c : Dev nD) (t : Fin cfg0.N) (Y X) : (rd m c).after 2 t Y X = (X = Y) := by dsimp only [rd]
theorem after3 (c : Dev nD) (t : Fin cfg0.N) (Y X) : (rd m c).after 3 t Y X = (X = Y) := by dsimp only [rd]
theorem after4 (c : Dev nD) (t : Fin cfg0.N) (Y X) : (rd m c).after 4 t Y X = (X = Y) := by dsimp only [rd]
theorem after5 (c : Dev nD) (t : Fin cfg0.N) (Y X) : (rd m c).after 5 t Y X = (X = Y) := by dsimp only [rd]
theorem after6 (c : Dev nD) (t : Fin cfg0.N) (Y X) : (rd m c).after 6 t Y X = (X = Y) := by dsimp only [rd]
theorem after7 (c : Dev nD) (t : Fin cfg0.N) (Y X) : (rd m c).after 7 t Y X = (X = Y) := by dsimp only [rd]
theorem after8 (c : Dev nD) (t : Fin cfg0.N) (Y X) : (rd m c).after 8 t Y X = (X = Y) := by dsimp only [rd]
theorem after9 (c : Dev nD) (t : Fin cfg0.N) (Y X) :
    (rd m c).after 9 t Y X = StepS (grid0.coords t) (newVals m c t) Y X := by dsimp only [rd]
theorem after10 (c : Dev nD) (t : Fin cfg0.N) (Y X) :
    (rd m c).after 10 t Y X = StepX (grid0.coords t) (outVals m c t) Y X := by dsimp only [rd]

/-! Each input's buffer holds its block whenever the body runs. -/

theorem finds0 (c : Dev nD) (t : Fin cfg0.N) (Y) (h : (rd m c).Finds 0 t Y) : Y = b0 m c t := by
  obtain ⟨d, hd⟩ := (rd m c).finds_in_eq_fetched 0 rfl (fun _ _ _ => rfl) (fun t Y X h => (after0 m c t Y X).mp h) t Y h
  rw [hd]; unfold RDat.fetched RDat.blockOf b0 iblk; rw [rd_A]; try rfl
theorem finds1 (c : Dev nD) (t : Fin cfg0.N) (Y) (h : (rd m c).Finds 1 t Y) : Y = b1 m c t := by
  obtain ⟨d, hd⟩ := (rd m c).finds_in_eq_fetched 1 rfl (fun _ _ _ => rfl) (fun t Y X h => (after1 m c t Y X).mp h) t Y h
  rw [hd]; unfold RDat.fetched RDat.blockOf b1 iblk; rw [rd_A]; try rfl
theorem finds2 (c : Dev nD) (t : Fin cfg0.N) (Y) (h : (rd m c).Finds 2 t Y) : Y = b2 m c t := by
  obtain ⟨d, hd⟩ := (rd m c).finds_in_eq_fetched 2 rfl (fun _ _ _ => rfl) (fun t Y X h => (after2 m c t Y X).mp h) t Y h
  rw [hd]; unfold RDat.fetched RDat.blockOf b2 iblk; rw [rd_A]; try rfl
theorem finds3 (c : Dev nD) (t : Fin cfg0.N) (Y) (h : (rd m c).Finds 3 t Y) : Y = b3 m c t := by
  obtain ⟨d, hd⟩ := (rd m c).finds_in_eq_fetched 3 rfl (fun _ _ _ => rfl) (fun t Y X h => (after3 m c t Y X).mp h) t Y h
  rw [hd]; unfold RDat.fetched RDat.blockOf b3 iblk; rw [rd_A]; try rfl
theorem finds4 (c : Dev nD) (t : Fin cfg0.N) (Y) (h : (rd m c).Finds 4 t Y) : Y = b4 m c t := by
  obtain ⟨d, hd⟩ := (rd m c).finds_in_eq_fetched 4 rfl (fun _ _ _ => rfl) (fun t Y X h => (after4 m c t Y X).mp h) t Y h
  rw [hd]; unfold RDat.fetched RDat.blockOf b4 iblk; rw [rd_A]; try rfl
theorem finds5 (c : Dev nD) (t : Fin cfg0.N) (Y) (h : (rd m c).Finds 5 t Y) : Y = b5 m c t := by
  obtain ⟨d, hd⟩ := (rd m c).finds_in_eq_fetched 5 rfl (fun _ _ _ => rfl) (fun t Y X h => (after5 m c t Y X).mp h) t Y h
  rw [hd]; unfold RDat.fetched RDat.blockOf b5 iblk; rw [rd_A]; try rfl
theorem finds6 (c : Dev nD) (t : Fin cfg0.N) (Y) (h : (rd m c).Finds 6 t Y) : Y = b6 m c t := by
  obtain ⟨d, hd⟩ := (rd m c).finds_in_eq_fetched 6 rfl (fun _ _ _ => rfl) (fun t Y X h => (after6 m c t Y X).mp h) t Y h
  rw [hd]; unfold RDat.fetched RDat.blockOf b6 iblk; rw [rd_A]; try rfl
theorem finds7 (c : Dev nD) (t : Fin cfg0.N) (Y) (h : (rd m c).Finds 7 t Y) : Y = b7 m c t := by
  obtain ⟨d, hd⟩ := (rd m c).finds_in_eq_fetched 7 rfl (fun _ _ _ => rfl) (fun t Y X h => (after7 m c t Y X).mp h) t Y h
  rw [hd]; unfold RDat.fetched RDat.blockOf b7 iblk; rw [rd_A]; try rfl
theorem finds8 (c : Dev nD) (t : Fin cfg0.N) (Y) (h : (rd m c).Finds 8 t Y) : Y = b8 m c t := by
  obtain ⟨d, hd⟩ := (rd m c).finds_in_eq_fetched 8 rfl (fun _ _ _ => rfl) (fun t Y X h => (after8 m c t Y X).mp h) t Y h
  rw [hd]; unfold RDat.fetched RDat.blockOf b8 iblk; rw [rd_A]; try rfl

/-- At the first point the condition holds; at the second it does not. -/
theorem first_t0 : condFirst (grid0.coords t0_0) := (condFirst_iff t0_0).mpr (by decide)
theorem later_t1 : ¬ condFirst (grid0.coords t0_1) := fun h => absurd ((condFirst_iff t0_1).mp h) (by decide)

/-- The body table's row at a point's buffers is the body. -/
theorem body_row (t : Fin cfg0.N) :
    defs₀ (F := F) .tc cfg0.body (cfg0.bodyArgs t (cfg0.slots t)) = bodyAt0 t := by
  unfold defs₀; rw [Defs.onTc_tc]

/-- What the body is called with at a point, the inputs at their blocks, -/
def bodyPre (c : Dev nD) (t : Fin cfg0.N) (y9 : Vec F S32x16x512 .f32) (y10 : Vec F S32x16x256 .f32) : sProp 𝕄 :=
  iprop(carried m c t.val ∗ (rd m c).owesAt () t.castSucc
    ∗ owns (c : Thread nD τ) (st0_0 t) fullShare (b0 m c t)
    ∗ owns (c : Thread nD τ) (st0_1 t) fullShare (b1 m c t)
    ∗ owns (c : Thread nD τ) (st0_2 t) fullShare (b2 m c t)
    ∗ owns (c : Thread nD τ) (st0_3 t) fullShare (b3 m c t)
    ∗ owns (c : Thread nD τ) (st0_4 t) fullShare (b4 m c t)
    ∗ owns (c : Thread nD τ) (st0_5 t) fullShare (b5 m c t)
    ∗ owns (c : Thread nD τ) (st0_6 t) fullShare (b6 m c t)
    ∗ owns (c : Thread nD τ) (st0_7 t) fullShare (b7 m c t)
    ∗ owns (c : Thread nD τ) (st0_8 t) fullShare (b8 m c t)
    ∗ owns (c : Thread nD τ) (st0_9 t) fullShare (y9)
    ∗ owns (c : Thread nD τ) (st0_10 t) fullShare (y10))

/-- and what it returns. -/
def bodyPost (c : Dev nD) (t : Fin cfg0.N) (y9 : Vec F S32x16x512 .f32) (y10 : Vec F S32x16x256 .f32) : sProp 𝕄 :=
  iprop(carried m c (t.val + 1) ∗ (rd m c).owesAt () t.succ
    ∗ (∃ X, ⌜(rd m c).after 0 t (b0 m c t) X⌝ ∗ owns (c : Thread nD τ) (st0_0 t) fullShare (X))
    ∗ (∃ X, ⌜(rd m c).after 1 t (b1 m c t) X⌝ ∗ owns (c : Thread nD τ) (st0_1 t) fullShare (X))
    ∗ (∃ X, ⌜(rd m c).after 2 t (b2 m c t) X⌝ ∗ owns (c : Thread nD τ) (st0_2 t) fullShare (X))
    ∗ (∃ X, ⌜(rd m c).after 3 t (b3 m c t) X⌝ ∗ owns (c : Thread nD τ) (st0_3 t) fullShare (X))
    ∗ (∃ X, ⌜(rd m c).after 4 t (b4 m c t) X⌝ ∗ owns (c : Thread nD τ) (st0_4 t) fullShare (X))
    ∗ (∃ X, ⌜(rd m c).after 5 t (b5 m c t) X⌝ ∗ owns (c : Thread nD τ) (st0_5 t) fullShare (X))
    ∗ (∃ X, ⌜(rd m c).after 6 t (b6 m c t) X⌝ ∗ owns (c : Thread nD τ) (st0_6 t) fullShare (X))
    ∗ (∃ X, ⌜(rd m c).after 7 t (b7 m c t) X⌝ ∗ owns (c : Thread nD τ) (st0_7 t) fullShare (X))
    ∗ (∃ X, ⌜(rd m c).after 8 t (b8 m c t) X⌝ ∗ owns (c : Thread nD τ) (st0_8 t) fullShare (X))
    ∗ (∃ X, ⌜(rd m c).after 9 t y9 X⌝ ∗ owns (c : Thread nD τ) (st0_9 t) fullShare (X))
    ∗ (∃ X, ⌜(rd m c).after 10 t y10 X⌝ ∗ owns (c : Thread nD τ) (st0_10 t) fullShare (X)))

set_option maxHeartbeats 2400000 in
/-- The body at the first point. -/
theorem sound0 (c : Dev nD) (y9 : Vec F S32x16x512 .f32) (y10 : Vec F S32x16x256 .f32) :
    bodyPre m c t0_0 y9 y10 ⊢ wp frame (wpE (defs₀ (F := F)) Variants.none c none) Set.univ (bodyAt0 t0_0) (fun _ => bodyPost m c t0_0 y9 y10) := by
  unfold bodyPre bodyPost bodyAt0
  rw [show (rd m c).owesAt () (t0_0).succ = (rd m c).owesAt () (t0_0).castSucc from rfl]
  simp only [after0, after1, after2, after3, after4, after5, after6, after7, after8, after9, after10]
  rw [show carried m c (t0_0).val = Pipeline.ΦA spec0 c from rfl, rest_eq]
  rw [show carried m c ((t0_0).val + 1) = iprop(owns (c : Thread nD τ) lrBuf fullShare (lrTab m c) ∗ (∃ r, prngReg c r)) from rfl]
  iintro ⟨⟨HS0, Hg⟩, Ho, H0, H1, H2, H3, H4, H5, H6, H7, H8, H9, H10⟩
  iapply ((runA c (grid0.coords t0_0) _ _ _ _ _ _ _ _ _ _ _ _ _ _ _ _ _ _ _ _ _ _ _ _  first_t0 (b0 m c t0_0) (b1 m c t0_0) (b2 m c t0_0) (b3 m c t0_0) (b4 m c t0_0) (b5 m c t0_0) (b6 m c t0_0) (b7 m c t0_0) (b8 m c t0_0) y9 y10) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  iintro ⟨H0, H1, H2, H3, H4, H5, H6, H7, H8, H9, H10, HS0⟩
  isplitl [HS0 Hg]
  · isplitl [HS0]
    · iexact HS0
    iexact Hg
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]; · iexact H9
  iexact H10

set_option maxHeartbeats 2400000 in
/-- The body at the second point. -/
theorem sound1 (c : Dev nD) (y9 : Vec F S32x16x512 .f32) (y10 : Vec F S32x16x256 .f32) :
    bodyPre m c t0_1 y9 y10 ⊢ wp frame (wpE (defs₀ (F := F)) Variants.none c none) Set.univ (bodyAt0 t0_1) (fun _ => bodyPost m c t0_1 y9 y10) := by
  unfold bodyPre bodyPost bodyAt0
  rw [show (rd m c).owesAt () (t0_1).succ = (rd m c).owesAt () (t0_1).castSucc from rfl]
  simp only [after0, after1, after2, after3, after4, after5, after6, after7, after8, after9, after10]
  rw [show carried m c (t0_1).val = iprop(owns (c : Thread nD τ) lrBuf fullShare (lrTab m c) ∗ (∃ r, prngReg c r)) from rfl]
  rw [show carried m c ((t0_1).val + 1) = iprop(owns (c : Thread nD τ) lrBuf fullShare (lrTab m c) ∗ (∃ r, prngReg c r)) from rfl]
  iintro ⟨⟨HS0, Hg⟩, Ho, H0, H1, H2, H3, H4, H5, H6, H7, H8, H9, H10⟩
  iapply ((runB c (grid0.coords t0_1) _ _ _ _ _ _ _ _ _ _ _ _ _ _ _ _ _ _ _ _ _ _ _ _  later_t1 (b0 m c t0_1) (b1 m c t0_1) (b2 m c t0_1) (b3 m c t0_1) (b4 m c t0_1) (b5 m c t0_1) (b6 m c t0_1) (b7 m c t0_1) (b8 m c t0_1) y9 y10 (lrTab m c)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  iintro ⟨H0, H1, H2, H3, H4, H5, H6, H7, H8, H9, H10, HS0⟩
  isplitl [HS0 Hg]
  · isplitl [HS0]
    · iexact HS0
    iexact Hg
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]; · iexact H9
  iexact H10

/-- The body at either point. -/
theorem sound (c : Dev nD) (t : Fin cfg0.N) (y9 : Vec F S32x16x512 .f32) (y10 : Vec F S32x16x256 .f32) :
    bodyPre m c t y9 y10 ⊢ wp frame (wpE (defs₀ (F := F)) Variants.none c none) Set.univ (bodyAt0 t) (fun _ => bodyPost m c t y9 y10) := by
  rcases fin_N0 t with rfl | rfl
  · exact sound0 m c y9 y10
  · exact sound1 m c y9 y10

/-- The pipeline's obligation on the body, at every point. -/
theorem obligation (c : Dev nD) : (rd (F := F) m c).BodyObligation (defs₀ (F := F)) Variants.none () Set.univ := fun t Y hY => by
  rw [bigSep_W0, body_row]
  simp only [bigSep_W0]
  rw [finds0 m c t (Y 0) (hY 0)]
  rw [finds1 m c t (Y 1) (hY 1)]
  rw [finds2 m c t (Y 2) (hY 2)]
  rw [finds3 m c t (Y 3) (hY 3)]
  rw [finds4 m c t (Y 4) (hY 4)]
  rw [finds5 m c t (Y 5) (hY 5)]
  rw [finds6 m c t (Y 6) (hY 6)]
  rw [finds7 m c t (Y 7) (hY 7)]
  rw [finds8 m c t (Y 8) (hY 8)]
  exact triple_restated (sound m c t (Y 9) (Y 10)) rfl .rfl fun _ => .rfl

/-! ## The launch -/

set_option backward.isDefEq.respectTransparency.types false in
/-- The run of the whole program: every array ends as the proof data say, every counter at zero. -/
theorem run_main : θ_run defs (onTc (τ := τ) (main (F := F))) (s₀ m ρ)
    (fun r => (RDat.FramePost (cfgs 0) (fun c => rd m c) (V m)) r ∧ r.2.sem = fun _ => 0) :=
  RDat.θ_run_frame_track (Q' := _) cfgs (0 : Fin 1) launch0 defs₀ Variants.none (fun c => rd m c) m ρ main
    (hbody := obligation m) (hshare := fun c => (rd m c).share_full fun _ => rfl)
    (howed := fun _ _ => rfl) (V := V m) (hmain := hmain m Variants.none) (hA := rd_A m)
    (hin := fun c => by rw [show (rd m c).Φ 0 = Pipeline.ΦA spec0 c from rfl])
    (hout := fun c => by
      rw [show (rd m c).Φ (Fin.last cfg0.N) = iprop(owns (c : Thread nD τ) lrBuf fullShare (lrTab m c) ∗ (∃ r, prngReg c r)) from rfl, rest_eq]
      iintro ⟨HS, Hg⟩
      isplitl [HS]
      · iexists _; iexact HS
      iexact Hg)

end Cert.KernelIdeal.Hand

end
-- ==== Proof.Final.lean ====
module

public import proofs.«01_k».proof.Proof.Body

@[expose] public section

/-!
# What the run leaves

The two result arrays head by head, the argument arrays unchanged, and the operands of each head in terms of the
argument arrays.
-/

set_option maxRecDepth 16384

noncomputable section

namespace Cert.KernelIdeal.Hand

open Cert.KernelIdeal.Gen
open Idealize.ShloMosaic Idealize.ShloMosaic.TcCoe Idealize.ShloMosaic.Tactic
open Idealize.ShloMosaic.ValueIdx
open Idealize.SL Idealize.SL.RA Idealize.SL.BI Idealize.SL.Sem
open Idealize.ShloMosaic.Pipeline (RDat Cfg Window cellOf)

variable {F : FTy → Type} [FloatOps F]

variable (m : (ℓ : Loc nD τ sig) → Buf (Elt F) ℓ) (ρ : Dev nD → PrngReg)

/-! ## Points and heads -/

theorem coords_pt (t : Fin cfg0.N) : (grid0.coords t 0).val = t.val := by
  have ht : t.val < 2 := Nat.lt_of_lt_of_eq t.isLt N_0
  have e0 : (grid0.coords t 0).val = t.val / 1 % 2 := Pipeline.Grid.coords_val t 0 (by decide) rfl
  omega

theorem row_val (t : Fin cfg0.N) (k : Fin 8) : (row (grid0.coords t) k).val = t.val * 8 + k.val := by
  show (grid0.coords t 0).val * 8 + k.val = _; rw [coords_pt]

/-- The point at which a head is computed, -/
def ptOf (u : Fin 16) : Fin cfg0.N := ⟨u.val / 8, by rw [show cfg0.N = 2 from N_0]; omega⟩
/-- and its place among the eight heads of the point. -/
def plOf (u : Fin 16) : Fin 8 := ⟨u.val % 8, by omega⟩

theorem row_of (u : Fin 16) : row (grid0.coords (ptOf u)) (plOf u) = u := by
  apply Fin.ext; rw [row_val]; show u.val / 8 * 8 + u.val % 8 = u.val; omega

theorem pt_row (t : Fin cfg0.N) (k : Fin 8) : ptOf (row (grid0.coords t) k) = t := by
  apply Fin.ext; show (row (grid0.coords t) k).val / 8 = t.val; rw [row_val]; omega

theorem rows_ne (k k' : Fin 8) : row (grid0.coords t0_0) k ≠ row (grid0.coords t0_1) k' := fun h => by
  have := congrArg Fin.val h
  rw [row_val, row_val] at this
  have e0 : (t0_0 : Fin grid0.N).val = 0 := rfl
  have e1 : (t0_1 : Fin grid0.N).val = 1 := rfl
  omega

/-! ## The result arrays -/

theorem zero9 (t : Fin cfg0.N) : win0_9.index t 0 = 0 ∧ win0_9.index t 1 = 0 ∧ win0_9.index t 2 = 0 := by
  rcases fin_N0 t with rfl | rfl <;> decide

theorem emb9 (t : Fin cfg0.N) (j : S32x16x512.Idx) : ((cfg0.win 9).blk t).view.emb j = j := by
  obtain ⟨e0, e1, e2⟩ := zero9 t
  funext a; apply Fin.ext
  match a with
  | ⟨0, _⟩ => show win0_9.index t (0 : Fin 3) * 32 + 1 * (j 0).val = (j 0).val; omega
  | ⟨1, _⟩ => show win0_9.index t (1 : Fin 3) * 16 + 1 * (j 1).val = (j 1).val; omega
  | ⟨2, _⟩ => show win0_9.index t (2 : Fin 3) * 512 + 1 * (j 2).val = (j 2).val; omega

/-- What the two points may leave in the buffer of this result: every head at its value. -/
theorem leaves9 (c : Dev nD) (X : Vec F S32x16x512 .f32) (h : (rd m c).Leaves 9 t0_1 X) (t : Fin cfg0.N) (k : Fin 8)
    (b : Fin 32) (n : Fin 512) : X (ix3 b (row (grid0.coords t) k) n) = newVals m c t k (ix3 b 0 n) := by
  obtain ⟨Y, hY, hs⟩ := h
  rw [after9] at hs
  have hf : (cfg0.win 9).fetch t0_1 = false := by decide
  rcases ((rd m c).finds_of_pos hf (by decide) Y).mp hY with hfl | ⟨Z, -, hz⟩
  · exact absurd ((flush0_9 _).mp hfl) (by decide)
  · have hz' : StepS (grid0.coords t0_0) (newVals m c t0_0) Z Y := (after9 m c t0_0 Z Y).mp hz
    rcases fin_N0 t with rfl | rfl
    · rw [(hs b _ n).2 (fun k' => rows_ne k k')]
      exact (hz' b _ n).1 k rfl
    · exact (hs b _ n).1 k rfl

/-- The array after the run, head by head. -/
theorem arr9 (c : Dev nD) (G : Vec F S32x16x512 .f32) (h : (rd m c).ArrAt 9 cfg0.N G) (t : Fin cfg0.N) (k : Fin 8)
    (b : Fin 32) (n : Fin 512) : G (ix3 b (row (grid0.coords t) k) n) = newVals m c t k (ix3 b 0 n) := by
  have h2 : (rd m c).ArrStep 9 t0_1 ((rd m c).ArrAt 9 1) G := by
    have e : (rd m c).ArrAt 9 2 G = (rd m c).ArrStep 9 t0_1 ((rd m c).ArrAt 9 1) G := by
      show (if h : 1 < cfg0.N then if (cfg0.win 9).flush ⟨1, h⟩ then (rd m c).ArrStep 9 ⟨1, h⟩ ((rd m c).ArrAt 9 1)
        else (rd m c).ArrAt 9 1 else (rd m c).ArrAt 9 1) G = _
      rw [dif_pos (by rw [show cfg0.N = 2 from N_0]; decide), if_pos ((flush0_9 _).mpr rfl)]
      rfl
    exact e ▸ h
  obtain ⟨G₀, X, -, hX, rfl⟩ := h2
  rw [← leaves9 m c X hX t k b n]
  have e := emb9 t0_1 (ix3 b (row (grid0.coords t) k) n)
  exact (congrArg _ e.symm).trans (View.write_emb_of_mem (Val := Elt F)
    (v := ((cfg0.win 9).blk t0_1).view) G₀ ((cfg0.win 9).cut (cfg0.grid.coords t0_1) X)
    (Finset.mem_univ (ix3 b (row (grid0.coords t) k) n)))

/-- The result array the run leaves. -/
def final9 (c : Dev nD) : Vec F S32x16x512 .f32 := fun j => newVals m c (ptOf (j 1)) (plOf (j 1)) (ix3 (j 0) 0 (j 2))

theorem arr9_eq (c : Dev nD) (G : Vec F S32x16x512 .f32) (h : (rd m c).ArrAt 9 cfg0.N G) : G = final9 m c := by
  funext j
  have h1 := arr9 m c G h (ptOf (j 1)) (plOf (j 1)) (j 0) (j 2)
  exact (congrArg G (eq_ix3 j)).trans ((congrArg (fun z : Fin 16 => G (ix3 (j 0) z (j 2))) (row_of (j 1)).symm).trans h1)

theorem zero10 (t : Fin cfg0.N) : win0_10.index t 0 = 0 ∧ win0_10.index t 1 = 0 ∧ win0_10.index t 2 = 0 := by
  rcases fin_N0 t with rfl | rfl <;> decide

theorem emb10 (t : Fin cfg0.N) (j : S32x16x256.Idx) : ((cfg0.win 10).blk t).view.emb j = j := by
  obtain ⟨e0, e1, e2⟩ := zero10 t
  funext a; apply Fin.ext
  match a with
  | ⟨0, _⟩ => show win0_10.index t (0 : Fin 3) * 32 + 1 * (j 0).val = (j 0).val; omega
  | ⟨1, _⟩ => show win0_10.index t (1 : Fin 3) * 16 + 1 * (j 1).val = (j 1).val; omega
  | ⟨2, _⟩ => show win0_10.index t (2 : Fin 3) * 256 + 1 * (j 2).val = (j 2).val; omega

/-- What the two points may leave in the buffer of this result: every head at its value. -/
theorem leaves10 (c : Dev nD) (X : Vec F S32x16x256 .f32) (h : (rd m c).Leaves 10 t0_1 X) (t : Fin cfg0.N) (k : Fin 8)
    (b : Fin 32) (n : Fin 256) : X (ix3 b (row (grid0.coords t) k) n) = outVals m c t k (ix3 b 0 n) := by
  obtain ⟨Y, hY, hs⟩ := h
  rw [after10] at hs
  have hf : (cfg0.win 10).fetch t0_1 = false := by decide
  rcases ((rd m c).finds_of_pos hf (by decide) Y).mp hY with hfl | ⟨Z, -, hz⟩
  · exact absurd ((flush0_10 _).mp hfl) (by decide)
  · have hz' : StepX (grid0.coords t0_0) (outVals m c t0_0) Z Y := (after10 m c t0_0 Z Y).mp hz
    rcases fin_N0 t with rfl | rfl
    · rw [(hs b _ n).2 (fun k' => rows_ne k k')]
      exact (hz' b _ n).1 k rfl
    · exact (hs b _ n).1 k rfl

/-- The array after the run, head by head. -/
theorem arr10 (c : Dev nD) (G : Vec F S32x16x256 .f32) (h : (rd m c).ArrAt 10 cfg0.N G) (t : Fin cfg0.N) (k : Fin 8)
    (b : Fin 32) (n : Fin 256) : G (ix3 b (row (grid0.coords t) k) n) = outVals m c t k (ix3 b 0 n) := by
  have h2 : (rd m c).ArrStep 10 t0_1 ((rd m c).ArrAt 10 1) G := by
    have e : (rd m c).ArrAt 10 2 G = (rd m c).ArrStep 10 t0_1 ((rd m c).ArrAt 10 1) G := by
      show (if h : 1 < cfg0.N then if (cfg0.win 10).flush ⟨1, h⟩ then (rd m c).ArrStep 10 ⟨1, h⟩ ((rd m c).ArrAt 10 1)
        else (rd m c).ArrAt 10 1 else (rd m c).ArrAt 10 1) G = _
      rw [dif_pos (by rw [show cfg0.N = 2 from N_0]; decide), if_pos ((flush0_10 _).mpr rfl)]
      rfl
    exact e ▸ h
  obtain ⟨G₀, X, -, hX, rfl⟩ := h2
  rw [← leaves10 m c X hX t k b n]
  have e := emb10 t0_1 (ix3 b (row (grid0.coords t) k) n)
  exact (congrArg _ e.symm).trans (View.write_emb_of_mem (Val := Elt F)
    (v := ((cfg0.win 10).blk t0_1).view) G₀ ((cfg0.win 10).cut (cfg0.grid.coords t0_1) X)
    (Finset.mem_univ (ix3 b (row (grid0.coords t) k) n)))

/-- The result array the run leaves. -/
def final10 (c : Dev nD) : Vec F S32x16x256 .f32 := fun j => outVals m c (ptOf (j 1)) (plOf (j 1)) (ix3 (j 0) 0 (j 2))

theorem arr10_eq (c : Dev nD) (G : Vec F S32x16x256 .f32) (h : (rd m c).ArrAt 10 cfg0.N G) : G = final10 m c := by
  funext j
  have h1 := arr10 m c G h (ptOf (j 1)) (plOf (j 1)) (j 0) (j 2)
  exact (congrArg G (eq_ix3 j)).trans ((congrArg (fun z : Fin 16 => G (ix3 (j 0) z (j 2))) (row_of (j 1)).symm).trans h1)

/-! ## The run -/

/-- The whole run: the two results at their values, the arguments unchanged, every counter at zero. -/
theorem run_values : θ_run defs (onTc (τ := τ) (main (F := F))) ⟨m, fun _ => 0, ρ⟩ (fun r => (∀ c : Dev nD,
      r.2.mem ((c.tc : Thread nD τ).loc main_v3_0) = final9 m c
      ∧ r.2.mem ((c.tc : Thread nD τ).loc main_v3_1) = final10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun r hr => ⟨fun c => by
    obtain ⟨h, -⟩ := hr
    refine ⟨arr9_eq m c _ ((h c).1 9), arr10_eq m c _ ((h c).1 10), ?_⟩
    exact ⟨(RDat.FramePost.arr_in h c 0 rfl).trans ((rd_A m c 0).trans (V_main_arg0 m c)),
      (RDat.FramePost.arr_in h c 1 rfl).trans ((rd_A m c 1).trans (V_main_arg1 m c)),
      (RDat.FramePost.arr_in h c 2 rfl).trans ((rd_A m c 2).trans (V_main_arg2 m c)),
      (RDat.FramePost.arr_in h c 3 rfl).trans ((rd_A m c 3).trans (V_main_arg3 m c)),
      (RDat.FramePost.arr_in h c 4 rfl).trans ((rd_A m c 4).trans (V_main_arg4 m c)),
      (RDat.FramePost.arr_in h c 6 rfl).trans ((rd_A m c 6).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩, hr.2⟩)
    (run_main m ρ)

/-- The arguments end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun r hr => ⟨fun c => (hr.1 c).2.2, hr.2⟩) (run_values m ρ)

/-! ## The operands of a head in the argument arrays -/

theorem idx0 (t : Fin cfg0.N) : win0_0.index t 0 = 0 ∧ win0_0.index t 1 = 0 ∧ win0_0.index t 2 = 0 := by
  rcases fin_N0 t with rfl | rfl <;> decide

theorem blk0 (c : Dev nD) (t : Fin cfg0.N) (a : Fin 32) (b : Fin 16) (d : Fin 256) :
    b0 m c t (ix3 a b d) = V m c main_arg0 (ix3 a b d) := by
  have hi := idx0 t
  unfold b0 iblk
  rw [View.read_apply]
  show V m c main_arg0 _ = V m c main_arg0 _
  congr 1
  funext x; apply Fin.ext
  match x with
  | ⟨0, _⟩ => show win0_0.index t (0 : Fin 3) * 32 + 1 * a.val = a.val; omega
  | ⟨1, _⟩ => show win0_0.index t (1 : Fin 3) * 16 + 1 * b.val = b.val; omega
  | ⟨2, _⟩ => show win0_0.index t (2 : Fin 3) * 256 + 1 * d.val = d.val; omega

theorem idx1 (t : Fin cfg0.N) : win0_1.index t 0 = 0 ∧ win0_1.index t 1 = 0 ∧ win0_1.index t 2 = 0 := by
  rcases fin_N0 t with rfl | rfl <;> decide

theorem blk1 (c : Dev nD) (t : Fin cfg0.N) (a : Fin 32) (b : Fin 16) (d : Fin 512) :
    b1 m c t (ix3 a b d) = V m c main_arg1 (ix3 a b d) := by
  have hi := idx1 t
  unfold b1 iblk
  rw [View.read_apply]
  show V m c main_arg1 _ = V m c main_arg1 _
  congr 1
  funext x; apply Fin.ext
  match x with
  | ⟨0, _⟩ => show win0_1.index t (0 : Fin 3) * 32 + 1 * a.val = a.val; omega
  | ⟨1, _⟩ => show win0_1.index t (1 : Fin 3) * 16 + 1 * b.val = b.val; omega
  | ⟨2, _⟩ => show win0_1.index t (2 : Fin 3) * 512 + 1 * d.val = d.val; omega

theorem idx2 (t : Fin cfg0.N) : win0_2.index t 0 = t.val ∧ win0_2.index t 1 = 0 ∧ win0_2.index t 2 = 0 := by
  rcases fin_N0 t with rfl | rfl <;> decide

theorem blk2 (c : Dev nD) (t : Fin cfg0.N) (a : Fin 8) (b : Fin 512) (d : Fin 512) :
    b2 m c t (ix3 a b d) = V m c main_arg2 (ix3 (row (grid0.coords t) a) b d) := by
  have hi := idx2 t
  unfold b2 iblk
  rw [View.read_apply]
  show V m c main_arg2 _ = V m c main_arg2 _
  congr 1
  funext x; apply Fin.ext
  match x with
  | ⟨0, _⟩ => show win0_2.index t (0 : Fin 3) * 8 + 1 * a.val = (row (grid0.coords t) a).val; rw [row_val]; omega
  | ⟨1, _⟩ => show win0_2.index t (1 : Fin 3) * 512 + 1 * b.val = b.val; omega
  | ⟨2, _⟩ => show win0_2.index t (2 : Fin 3) * 512 + 1 * d.val = d.val; omega

theorem idx3 (t : Fin cfg0.N) : win0_3.index t 0 = t.val ∧ win0_3.index t 1 = 0 ∧ win0_3.index t 2 = 0 := by
  rcases fin_N0 t with rfl | rfl <;> decide

theorem blk3 (c : Dev nD) (t : Fin cfg0.N) (a : Fin 8) (b : Fin 256) (d : Fin 512) :
    b3 m c t (ix3 a b d) = V m c main_arg3 (ix3 (row (grid0.coords t) a) b d) := by
  have hi := idx3 t
  unfold b3 iblk
  rw [View.read_apply]
  show V m c main_arg3 _ = V m c main_arg3 _
  congr 1
  funext x; apply Fin.ext
  match x with
  | ⟨0, _⟩ => show win0_3.index t (0 : Fin 3) * 8 + 1 * a.val = (row (grid0.coords t) a).val; rw [row_val]; omega
  | ⟨1, _⟩ => show win0_3.index t (1 : Fin 3) * 256 + 1 * b.val = b.val; omega
  | ⟨2, _⟩ => show win0_3.index t (2 : Fin 3) * 512 + 1 * d.val = d.val; omega

theorem idx4 (t : Fin cfg0.N) : win0_4.index t 0 = t.val ∧ win0_4.index t 1 = 0 ∧ win0_4.index t 2 = 0 := by
  rcases fin_N0 t with rfl | rfl <;> decide

theorem blk4 (c : Dev nD) (t : Fin cfg0.N) (a : Fin 8) (b : Fin 1) (d : Fin 512) :
    b4 m c t (ix3 a b d) = V m c main_arg4 (ix3 (row (grid0.coords t) a) b d) := by
  have hi := idx4 t
  unfold b4 iblk
  rw [View.read_apply]
  show V m c main_arg4 _ = V m c main_arg4 _
  congr 1
  funext x; apply Fin.ext
  match x with
  | ⟨0, _⟩ => show win0_4.index t (0 : Fin 3) * 8 + 1 * a.val = (row (grid0.coords t) a).val; rw [row_val]; omega
  | ⟨1, _⟩ => show win0_4.index t (1 : Fin 3) * 1 + 1 * b.val = b.val; omega
  | ⟨2, _⟩ => show win0_4.index t (2 : Fin 3) * 512 + 1 * d.val = d.val; omega

theorem idx5 (t : Fin cfg0.N) : win0_5.index t 0 = t.val ∧ win0_5.index t 1 = 0 ∧ win0_5.index t 2 = 0 := by
  rcases fin_N0 t with rfl | rfl <;> decide

theorem blk5 (c : Dev nD) (t : Fin cfg0.N) (a : Fin 8) (b : Fin 1) (d : Fin 512) :
    b5 m c t (ix3 a b d) = V m c main_v0 (ix3 (row (grid0.coords t) a) b d) := by
  have hi := idx5 t
  unfold b5 iblk
  rw [View.read_apply]
  show V m c main_v0 _ = V m c main_v0 _
  congr 1
  funext x; apply Fin.ext
  match x with
  | ⟨0, _⟩ => show win0_5.index t (0 : Fin 3) * 8 + 1 * a.val = (row (grid0.coords t) a).val; rw [row_val]; omega
  | ⟨1, _⟩ => show win0_5.index t (1 : Fin 3) * 1 + 1 * b.val = b.val; omega
  | ⟨2, _⟩ => show win0_5.index t (2 : Fin 3) * 512 + 1 * d.val = d.val; omega

theorem idx6 (t : Fin cfg0.N) : win0_6.index t 0 = t.val ∧ win0_6.index t 1 = 0 ∧ win0_6.index t 2 = 0 := by
  rcases fin_N0 t with rfl | rfl <;> decide

theorem blk6 (c : Dev nD) (t : Fin cfg0.N) (a : Fin 8) (b : Fin 512) (d : Fin 256) :
    b6 m c t (ix3 a b d) = V m c main_arg5 (ix3 (row (grid0.coords t) a) b d) := by
  have hi := idx6 t
  unfold b6 iblk
  rw [View.read_apply]
  show V m c main_arg5 _ = V m c main_arg5 _
  congr 1
  funext x; apply Fin.ext
  match x with
  | ⟨0, _⟩ => show win0_6.index t (0 : Fin 3) * 8 + 1 * a.val = (row (grid0.coords t) a).val; rw [row_val]; omega
  | ⟨1, _⟩ => show win0_6.index t (1 : Fin 3) * 512 + 1 * b.val = b.val; omega
  | ⟨2, _⟩ => show win0_6.index t (2 : Fin 3) * 256 + 1 * d.val = d.val; omega

theorem idx7 (t : Fin cfg0.N) : win0_7.index t 0 = 0 ∧ win0_7.index t 1 = 0 := by
  rcases fin_N0 t with rfl | rfl <;> decide

theorem blk7 (c : Dev nD) (t : Fin cfg0.N) (a : Fin 16) (b : Fin 256) :
    b7 m c t (ix2 a b) = V m c main_v1 (ix2 a b) := by
  have hi := idx7 t
  unfold b7 iblk
  rw [View.read_apply]
  show V m c main_v1 _ = V m c main_v1 _
  congr 1
  funext x; apply Fin.ext
  match x with
  | ⟨0, _⟩ => show win0_7.index t (0 : Fin 2) * 16 + 1 * a.val = a.val; omega
  | ⟨1, _⟩ => show win0_7.index t (1 : Fin 2) * 256 + 1 * b.val = b.val; omega

theorem idx8 (t : Fin cfg0.N) : win0_8.index t 0 = 0 ∧ win0_8.index t 1 = 0 := by
  rcases fin_N0 t with rfl | rfl <;> decide

theorem blk8 (c : Dev nD) (t : Fin cfg0.N) (a : Fin 1) (b : Fin 1) :
    b8 m c t (ix2 a b) = V m c main_v2 (ix2 a b) := by
  have hi := idx8 t
  unfold b8 iblk
  rw [View.read_apply]
  show V m c main_v2 _ = V m c main_v2 _
  congr 1
  funext x; apply Fin.ext
  match x with
  | ⟨0, _⟩ => show win0_8.index t (0 : Fin 2) * 1 + 1 * a.val = a.val; omega
  | ⟨1, _⟩ => show win0_8.index t (1 : Fin 2) * 1 + 1 * b.val = b.val; omega

/-- The scaled rate of a head, spread over its units. -/
theorem V_v0 (c : Dev nD) (u : Fin 16) (z : Fin 1) (n : Fin 512) :
    V m c main_v0 (ix3 u z n) = m ((c : Thread nD τ).loc main_arg6) (ix3 u 0 0) := by
  have e : V m c main_v0 = broadcastInDim S16x1x512 ![0, 1, 2] bcast_S16x1x1_S16x1x512_0_1_2
      (m ((c : Thread nD τ).loc main_arg6) : Vec F S16x1x1 .f32) := rfl
  rw [e]
  show m ((c : Thread nD τ).loc main_arg6) _ = m ((c : Thread nD τ).loc main_arg6) _
  congr 1
  obtain rfl := Subsingleton.elim z 0
  funext a; match a with
  | ⟨0, _⟩ => rfl
  | ⟨1, _⟩ => rfl
  | ⟨2, _⟩ => rfl

theorem V_v1 (c : Dev nD) (u : Fin 16) (d : Fin 256) :
    V m c main_v1 (ix2 u d) = m ((c : Thread nD τ).loc main_arg7) (ix3 u d 0) := by
  have e : V m c main_v1 = shapeCast S16x256
      (m ((c : Thread nD τ).loc main_arg7) : Vec F S16x256x1 .f32) shapeCasts_S16x256x1_S16x256 := rfl
  rw [e]
  exact shapeCast_apply _ _ _ _ (by
    have e3 : (S16x256x1.rowMajor (ix3 u d 0)).val = (u.val * 256 + d.val) * 1 + 0 := Shape.rowMajor_val_three _
    have e2 : (S16x256.rowMajor (ix2 u d)).val = u.val * 256 + d.val := Shape.rowMajor_val_two _
    show (S16x256x1.rowMajor (ix3 u d 0)).val = (S16x256.rowMajor (ix2 u d)).val
    omega)

theorem V_v2 (c : Dev nD) (z z' : Fin 1) :
    V m c main_v2 (ix2 z z') = m ((c : Thread nD τ).loc main_arg8) (ix1 0) := by
  have e : V m c main_v2 = shapeCast S1x1
      (m ((c : Thread nD τ).loc main_arg8) : Vec F S1 .f32) shapeCasts_S1_S1x1 := rfl
  rw [e]
  exact shapeCast_apply _ _ _ _ (by
    have := (S1x1.rowMajor (ix2 z z')).isLt
    have := (S1.rowMajor (ix1 0)).isLt
    have e1 : S1.numel = 1 := by decide
    have e2 : S1x1.numel = 1 := by decide
    show (S1.rowMajor (ix1 0)).val = (S1x1.rowMajor (ix2 z z')).val
    omega)

end Cert.KernelIdeal.Hand

end
-- ==== Proof.Same.lean ====
module

public import proofs.«01_k».proof.Kernel
public import proofs.«01_k».proof.KernelIdeal
public import proofs.«01_k».proof.Proof.Gen.Kernel
public import proofs.«01_k».proof.Proof.Gen.KernelIdeal

@[expose] public section

/-! # The two printed kernels are one program

The idealized program is the printed one, no operation replaced. Over any float instance the two body tables are equal,
and so are the two `main`s: what is proved of the one is proved of the other. -/

set_option maxRecDepth 16384

noncomputable section

namespace Cert.Same

open Idealize.ShloMosaic

variable {F : FTy → Type} [FloatOps F]

/-- One body for the one label. -/
theorem bodies : @Kernel.defs₀ F _ Kernel.Gen.facts = @KernelIdeal.defs₀ F _ KernelIdeal.Gen.facts := by
  unfold Kernel.defs₀ KernelIdeal.defs₀
  refine congrArg Defs.onTc ?_
  funext l a
  revert a
  match l with
  | 0 => exact fun a => rfl

/-- One table of bodies, pipelines included. -/
theorem defs : @Kernel.defs F _ Kernel.Gen.facts = @KernelIdeal.defs F _ KernelIdeal.Gen.facts :=
  congrArg (Pipeline.defs (@KernelIdeal.pcfgs F KernelIdeal.Gen.facts)) bodies

/-- One `main`. -/
theorem main : @Kernel.main F Kernel.Gen.facts = @KernelIdeal.main F KernelIdeal.Gen.facts := rfl

end Cert.Same

end
-- ==== Proof.Spec.lean ====
module

public import Idealize.ShloMosaic.Lib.Pointwise
public import Idealize.ShloMosaic.PureOps.Ideal

@[expose] public section

/-! # The reservoir step, as a function of the arrays

Both programs compute these two functions: the kernel for any arrays, the reference when the stored positions are those
of the matrices' non-zero elements. Arrays are read at their coordinates. -/

noncomputable section

namespace Cert.Spec

open Idealize.ShloMosaic

/-- The softmax of sixteen numbers. -/
def soft (z : Fin 16 → EReal) (u : Fin 16) : EReal :=
  Ideal.div (Ideal.exp (z u - Finset.univ.fold max (Ideal.ofBits .f32 0xFF800000#32) z))
    (∑ u' : Fin 16, Ideal.exp (z u' - Finset.univ.fold max (Ideal.ofBits .f32 0xFF800000#32) z))

section
variable (x : Fin 32 → Fin 16 → Fin 256 → EReal) (s : Fin 32 → Fin 16 → Fin 512 → EReal)
  (w : Fin 16 → Fin 512 → Fin 512 → EReal) (win : Fin 16 → Fin 256 → Fin 512 → EReal) (bias : Fin 16 → Fin 512 → EReal)
  (wo : Fin 16 → Fin 512 → Fin 256 → EReal) (sr : Fin 16 → EReal) (al : Fin 16 → Fin 256 → EReal) (temp : EReal)

/-- The leak rate of head `u` in sample `b`: a softmax over the heads of the scaled products with the head's weights. -/
def leak (b : Fin 32) (u : Fin 16) : EReal :=
  soft (fun u' => Ideal.div (∑ d : Fin 256, x b u' d * al u' d) temp) u

/-- The new state: the old one and the activation, mixed by the leak rate. -/
def newState (b : Fin 32) (u : Fin 16) (n : Fin 512) : EReal :=
  (1 - leak x al temp b u) * s b u n
    + leak x al temp b u
      * Ideal.tanh ((∑ d : Fin 256, x b u d * win u d n) + ((∑ k : Fin 512, s b u k * w u k n) * sr u + bias u n))

/-- The output: the new state times the output weights, head by head. -/
def output (b : Fin 32) (u : Fin 16) (o : Fin 256) : EReal :=
  ∑ n : Fin 512, newState x s w win bias sr al temp b u n * wo u n o
end

end Cert.Spec

end

end
-- ==== Proof.KernelValue.lean ====
module

public import proofs.«01_k».proof.Proof.Final
public import proofs.«01_k».proof.Proof.Spec

@[expose] public section

/-! # What the kernel's arrays hold, over the extended reals -/

set_option maxRecDepth 16384

noncomputable section

namespace Cert.KernelIdeal.Hand

open Idealize.ShloMosaic Cert.KernelIdeal.Gen

/-- The table of leak rates at a sample and a head. -/
theorem pay4_apply (X : Vec Ideal S32x16x256 .f32) (A : Vec Ideal S16x256 .f32) (T : Vec Ideal S1x1 .f32) (b : Fin 32) (u : Fin 16) :
    k0_pay4 X A T (ix2 b u)
      = Spec.leak (fun b u d => X (ix3 b u d)) (fun u d => A (ix2 u d)) (T (ix2 0 0)) b u := by
  pointwise [k0_pay4, Spec.leak, Spec.soft]

/-- One head's new state at a sample and a place, before it is given the head's axis. -/
theorem pay16_apply (lr : FVec Ideal S32x1 .f32) (x : FVec Ideal S32x256 .f32) (st : FVec Ideal S32x512 .f32)
    (win : Vec Ideal S1x256x512 .f32) (w : Vec Ideal S1x512x512 .f32) (sr b : Vec Ideal S1x1x512 .f32)
    (p : Fin 32) (n : Fin 512) :
    k0_pay16 lr x st win w sr b (ix2 p n)
      = (1 - lr (ix2 p 0)) * st (ix2 p n)
        + lr (ix2 p 0) * Ideal.tanh ((∑ d : Fin 256, x (ix2 p d) * win (ix3 0 d n))
            + ((∑ k : Fin 512, st (ix2 p k) * w (ix3 0 k n)) * sr (ix3 0 0 n) + b (ix3 0 0 n))) := by
  pointwise [k0_pay16]

theorem pay17_apply (lr : FVec Ideal S32x1 .f32) (x : FVec Ideal S32x256 .f32) (st : FVec Ideal S32x512 .f32)
    (win : Vec Ideal S1x256x512 .f32) (w : Vec Ideal S1x512x512 .f32) (sr b : Vec Ideal S1x1x512 .f32)
    (p : Fin 32) (n : Fin 512) :
    k0_pay17 lr x st win w sr b (ix3 p 0 n) = k0_pay16 lr x st win w sr b (ix2 p n) := by
  pointwise [k0_pay17]

theorem pay18_apply (lr : FVec Ideal S32x1 .f32) (x : FVec Ideal S32x256 .f32) (st : FVec Ideal S32x512 .f32)
    (win : Vec Ideal S1x256x512 .f32) (w : Vec Ideal S1x512x512 .f32) (sr b : Vec Ideal S1x1x512 .f32)
    (wo : Vec Ideal S1x512x256 .f32) (p : Fin 32) (o : Fin 256) :
    k0_pay18 lr x st win w sr b wo (ix3 p 0 o)
      = ∑ n : Fin 512, k0_pay16 lr x st win w sr b (ix2 p n) * wo (ix3 0 n o) := by
  pointwise [k0_pay18]

theorem pay14_apply (x : Vec Ideal S32x1x256 .f32) (p : Fin 32) (d : Fin 256) :
    k0_pay14 x (ix2 p d) = x (ix3 p 0 d) := by
  pointwise [k0_pay14]

theorem pay15_apply (x : Vec Ideal S32x1x512 .f32) (p : Fin 32) (d : Fin 512) :
    k0_pay15 x (ix2 p d) = x (ix3 p 0 d) := by
  pointwise [k0_pay15]

/-- The head's column of the table: the sum over all columns of the table with the other columns zeroed. -/
theorem headLr_apply (i : grid0.Coords) (c : Fin 8) (L : Vec Ideal S32x16 .f32) (p : Fin 32) :
    headLr i c L (ix2 p 0) = L (ix2 p (row i c)) := by
  have e : Scalar.addi (base i) (BitVec.ofNat 32 c.val) = BitVec.ofNat 32 (row i c).val := by
    have h : (i 0).val < 2 := (i 0).isLt
    have hc := c.isLt
    apply BitVec.eq_of_toNat_eq
    show ((BitVec.ofNat 32 (i 0).val * 8#32 + BitVec.ofNat 32 c.val : BitVec 32)).toNat
      = (BitVec.ofNat 32 ((i 0).val * 8 + c.val)).toNat
    rw [BitVec.toNat_add, BitVec.toNat_mul]
    simp only [BitVec.toNat_ofNat]
    omega
  pointwise [headLr, k0_pay19]
  rw [e]
  have hsel : ∀ x : Fin 16, IntOp.cmpi .eq (BitVec.ofNat 32 x.val) (BitVec.ofNat 32 (row i c).val) = 1#1 ↔ x = row i c := by
    intro x
    have hx := x.isLt
    have hr := (row i c).isLt
    rw [IntOp.cmpi_eq]
    constructor
    · intro h
      have h' := congrArg BitVec.toNat h
      simp only [BitVec.toNat_ofNat] at h'
      exact Fin.ext (by omega)
    · rintro rfl; rfl
  rw [Finset.sum_eq_single (row i c)]
  · exact if_pos ((hsel _).2 rfl)
  · intro x _ hx
    exact if_neg (fun h => hx ((hsel x).1 h))
  · intro h; exact absurd (Finset.mem_univ _) h

/-! ## A head's operands in the argument arrays -/

section Ops
variable {F : FTy → Type} [FloatOps F]

theorem ld_rX (x : Vec F S32x16x256 .f32) (i : grid0.Coords) (k : Fin 8) (p : Fin 32) (d : Fin 256) :
    View.ld x (rX i k) (ix3 p 0 d) = x (ix3 p (row i k) d) := by
  rw [ix3_eq_valueIdx, ix3_eq_valueIdx]; exact congrArg x (emb_rX i k p d)
theorem ld_rS (x : Vec F S32x16x512 .f32) (i : grid0.Coords) (k : Fin 8) (p : Fin 32) (d : Fin 512) :
    View.ld x (rS i k) (ix3 p 0 d) = x (ix3 p (row i k) d) := by
  rw [ix3_eq_valueIdx, ix3_eq_valueIdx]; exact congrArg x (emb_rS i k p d)
theorem ld_rW (x : Vec F S8x512x512 .f32) (k : Fin 8) (p : Fin 512) (d : Fin 512) :
    View.ld x (rW k) (ix3 0 p d) = x (ix3 k p d) := by
  rw [ix3_eq_valueIdx, ix3_eq_valueIdx]; exact congrArg x (emb_rW k p d)
theorem ld_rWin (x : Vec F S8x256x512 .f32) (k : Fin 8) (p : Fin 256) (d : Fin 512) :
    View.ld x (rWin k) (ix3 0 p d) = x (ix3 k p d) := by
  rw [ix3_eq_valueIdx, ix3_eq_valueIdx]; exact congrArg x (emb_rWin k p d)
theorem ld_rV (x : Vec F S8x1x512 .f32) (k : Fin 8) (p : Fin 1) (d : Fin 512) :
    View.ld x (rV k) (ix3 0 p d) = x (ix3 k p d) := by
  rw [ix3_eq_valueIdx, ix3_eq_valueIdx]; exact congrArg x (emb_rV k p d)
theorem ld_rWo (x : Vec F S8x512x256 .f32) (k : Fin 8) (p : Fin 512) (d : Fin 256) :
    View.ld x (rWo k) (ix3 0 p d) = x (ix3 k p d) := by
  rw [ix3_eq_valueIdx, ix3_eq_valueIdx]; exact congrArg x (emb_rWo k p d)
end Ops

variable (m : (ℓ : Loc nD τ sig) → Buf (Elt Ideal) ℓ)

/-- The argument arrays, read at their coordinates. -/
def inX (c : Dev nD) (b : Fin 32) (u : Fin 16) (d : Fin 256) : EReal := (m ((c.tc : Thread nD τ).loc main_arg0) : Vec Ideal S32x16x256 .f32) (ix3 b u d)
def inS (c : Dev nD) (b : Fin 32) (u : Fin 16) (d : Fin 512) : EReal := (m ((c.tc : Thread nD τ).loc main_arg1) : Vec Ideal S32x16x512 .f32) (ix3 b u d)
def inW (c : Dev nD) (u : Fin 16) (k n : Fin 512) : EReal := (m ((c.tc : Thread nD τ).loc main_arg2) : Vec Ideal S16x512x512 .f32) (ix3 u k n)
def inWin (c : Dev nD) (u : Fin 16) (d : Fin 256) (n : Fin 512) : EReal := (m ((c.tc : Thread nD τ).loc main_arg3) : Vec Ideal S16x256x512 .f32) (ix3 u d n)
def inB (c : Dev nD) (u : Fin 16) (n : Fin 512) : EReal := (m ((c.tc : Thread nD τ).loc main_arg4) : Vec Ideal S16x1x512 .f32) (ix3 u 0 n)
def inWo (c : Dev nD) (u : Fin 16) (n : Fin 512) (o : Fin 256) : EReal := (m ((c.tc : Thread nD τ).loc main_arg5) : Vec Ideal S16x512x256 .f32) (ix3 u n o)
def inSr (c : Dev nD) (u : Fin 16) : EReal := (m ((c.tc : Thread nD τ).loc main_arg6) : Vec Ideal S16x1x1 .f32) (ix3 u 0 0)
def inAl (c : Dev nD) (u : Fin 16) (d : Fin 256) : EReal := (m ((c.tc : Thread nD τ).loc main_arg7) : Vec Ideal S16x256x1 .f32) (ix3 u d 0)
def inT (c : Dev nD) : EReal := (m ((c.tc : Thread nD τ).loc main_arg8) : Vec Ideal S1 .f32) (ix1 0)

theorem at0 (c : Dev nD) (t : Fin cfg0.N) (a : Fin 32) (b : Fin 16) (d : Fin 256) : b0 m c t (ix3 a b d) = inX m c a b d := by
  unfold inX
  rw [ix3_eq_valueIdx]; exact (blk0 m c t a b d).trans (congrFun (V_main_arg0 m c) _)
theorem at1 (c : Dev nD) (t : Fin cfg0.N) (a : Fin 32) (b : Fin 16) (d : Fin 512) : b1 m c t (ix3 a b d) = inS m c a b d := by
  unfold inS
  rw [ix3_eq_valueIdx]; exact (blk1 m c t a b d).trans (congrFun (V_main_arg1 m c) _)
theorem at2 (c : Dev nD) (t : Fin cfg0.N) (a : Fin 8) (b d : Fin 512) :
    b2 m c t (ix3 a b d) = inW m c (row (grid0.coords t) a) b d := by
  unfold inW
  rw [ix3_eq_valueIdx, ix3_eq_valueIdx]; exact (blk2 m c t a b d).trans (congrFun (V_main_arg2 m c) _)
theorem at3 (c : Dev nD) (t : Fin cfg0.N) (a : Fin 8) (b : Fin 256) (d : Fin 512) :
    b3 m c t (ix3 a b d) = inWin m c (row (grid0.coords t) a) b d := by
  unfold inWin
  rw [ix3_eq_valueIdx, ix3_eq_valueIdx]; exact (blk3 m c t a b d).trans (congrFun (V_main_arg3 m c) _)
theorem at4 (c : Dev nD) (t : Fin cfg0.N) (a : Fin 8) (d : Fin 512) :
    b4 m c t (ix3 a 0 d) = inB m c (row (grid0.coords t) a) d := by
  unfold inB
  rw [ix3_eq_valueIdx, ix3_eq_valueIdx]; exact (blk4 m c t a 0 d).trans (congrFun (V_main_arg4 m c) _)
theorem at5 (c : Dev nD) (t : Fin cfg0.N) (a : Fin 8) (d : Fin 512) :
    b5 m c t (ix3 a 0 d) = inSr m c (row (grid0.coords t) a) := by
  unfold inSr
  rw [ix3_eq_valueIdx, ix3_eq_valueIdx]; exact (blk5 m c t a 0 d).trans (V_v0 m c _ 0 d)
theorem at6 (c : Dev nD) (t : Fin cfg0.N) (a : Fin 8) (b : Fin 512) (d : Fin 256) :
    b6 m c t (ix3 a b d) = inWo m c (row (grid0.coords t) a) b d := by
  unfold inWo
  rw [ix3_eq_valueIdx, ix3_eq_valueIdx]; exact (blk6 m c t a b d).trans (congrFun (V_main_arg5 m c) _)
theorem at7 (c : Dev nD) (t : Fin cfg0.N) (a : Fin 16) (b : Fin 256) : b7 m c t (ix2 a b) = inAl m c a b := by
  unfold inAl
  rw [ix3_eq_valueIdx, ix2_eq_valueIdx]; exact (blk7 m c t a b).trans (V_v1 m c a b)
theorem at8 (c : Dev nD) (t : Fin cfg0.N) : b8 m c t (ix2 0 0) = inT m c := by
  unfold inT
  rw [ix2_eq_valueIdx, ix1_eq_valueIdx]; exact (blk8 m c t 0 0).trans (V_v2 m c 0 0)

/-! ## The two result arrays -/

theorem lrTab_apply (c : Dev nD) (b : Fin 32) (u : Fin 16) :
    lrTab m c (ix2 b u) = Spec.leak (inX m c) (inAl m c) (inT m c) b u := by
  unfold lrTab
  rw [pay4_apply]
  have e0 : (fun b u d => b0 m c t0_0 (ix3 b u d)) = inX m c := by funext b u d; exact at0 m c t0_0 b u d
  have e7 : (fun u d => b7 m c t0_0 (ix2 u d)) = inAl m c := by funext u d; exact at7 m c t0_0 u d
  rw [e0, e7, at8]

/-- What a head leaves at a sample and a place: the new state of the specification. -/
theorem core_apply (c : Dev nD) (t : Fin cfg0.N) (k : Fin 8) (p : Fin 32) (n : Fin 512) :
    k0_pay16 (headLr (grid0.coords t) k (lrTab m c)) (k0_pay14 (View.ld (b0 m c t) (rX (grid0.coords t) k)))
        (k0_pay15 (View.ld (b1 m c t) (rS (grid0.coords t) k))) (View.ld (b3 m c t) (rWin k)) (View.ld (b2 m c t) (rW k))
        (View.ld (b5 m c t) (rV k)) (View.ld (b4 m c t) (rV k)) (ix2 p n)
      = Spec.newState (inX m c) (inS m c) (inW m c) (inWin m c) (inB m c) (inSr m c) (inAl m c) (inT m c)
          p (row (grid0.coords t) k) n := by
  rw [pay16_apply, headLr_apply, lrTab_apply, pay15_apply, ld_rS, at1]
  have hx : ∀ d : Fin 256, k0_pay14 (View.ld (b0 m c t) (rX (grid0.coords t) k)) (ix2 p d)
      = inX m c p (row (grid0.coords t) k) d := fun d => (pay14_apply _ p d).trans ((ld_rX _ _ k p d).trans (at0 m c t _ _ _))
  have hs : ∀ d : Fin 512, k0_pay15 (View.ld (b1 m c t) (rS (grid0.coords t) k)) (ix2 p d)
      = inS m c p (row (grid0.coords t) k) d := fun d => (pay15_apply _ p d).trans ((ld_rS _ _ k p d).trans (at1 m c t _ _ _))
  exact congrArg₂ (· + ·) rfl (congrArg₂ (· * ·) rfl (congrArg Ideal.tanh (congrArg₂ (· + ·)
    (Finset.sum_congr rfl fun d _ => congrArg₂ (· * ·) (hx d) ((ld_rWin _ k d n).trans (at3 m c t k d n)))
    (congrArg₂ (· + ·)
      (congrArg₂ (· * ·)
        (Finset.sum_congr rfl fun d _ => congrArg₂ (· * ·) (hs d) ((ld_rW _ k d n).trans (at2 m c t k d n)))
        ((ld_rV _ k 0 n).trans (at5 m c t k n)))
      ((ld_rV _ k 0 n).trans (at4 m c t k n))))))

theorem newVals_apply (c : Dev nD) (t : Fin cfg0.N) (k : Fin 8) (p : Fin 32) (n : Fin 512) :
    newVals m c t k (ix3 p 0 n)
      = Spec.newState (inX m c) (inS m c) (inW m c) (inWin m c) (inB m c) (inSr m c) (inAl m c) (inT m c)
          p (row (grid0.coords t) k) n := by
  unfold newVals newAt headNew
  rw [pay17_apply, core_apply]

theorem outVals_apply (c : Dev nD) (t : Fin cfg0.N) (k : Fin 8) (p : Fin 32) (o : Fin 256) :
    outVals m c t k (ix3 p 0 o)
      = Spec.output (inX m c) (inS m c) (inW m c) (inWin m c) (inB m c) (inWo m c) (inSr m c) (inAl m c) (inT m c)
          p (row (grid0.coords t) k) o := by
  unfold outVals outAt headOut
  rw [pay18_apply]
  exact Finset.sum_congr rfl fun n _ =>
    congrArg₂ (· * ·) (core_apply m c t k p n) ((ld_rWo _ k n o).trans (at6 m c t k n o))

/-- The new state array at its coordinates. -/
theorem final9_apply (c : Dev nD) (b : Fin 32) (u : Fin 16) (n : Fin 512) :
    final9 m c (ix3 b u n)
      = Spec.newState (inX m c) (inS m c) (inW m c) (inWin m c) (inB m c) (inSr m c) (inAl m c) (inT m c) b u n := by
  have h := newVals_apply m c (ptOf u) (plOf u) b n
  rw [row_of, ix3_eq_valueIdx] at h
  exact h

/-- The output array at its coordinates. -/
theorem final10_apply (c : Dev nD) (b : Fin 32) (u : Fin 16) (o : Fin 256) :
    final10 m c (ix3 b u o)
      = Spec.output (inX m c) (inS m c) (inW m c) (inWin m c) (inB m c) (inWo m c) (inSr m c) (inAl m c) (inT m c) b u o := by
  have h := outVals_apply m c (ptOf u) (plOf u) b o
  rw [row_of, ix3_eq_valueIdx] at h
  exact h

end Cert.KernelIdeal.Hand

end

end
-- ==== Proof.Gather.lean ====
module

public import Idealize.ShloMosaic.Lib.Pointwise
public import Idealize.ShloMosaic.PureOps.ShapeOps

@[expose] public section

/-! # Reading an array at stored positions

The reference gathers matrix elements and input elements by triples of index words, one triple in each row of a
three-column table. Where a row holds the words of coordinates in range, the gather reads the array at those
coordinates: nothing is clamped. -/

namespace Cert.Positions

open Idealize.ShloMosaic

/-- The word of a coordinate, clamped to the coordinates in range, is that coordinate. -/
theorem clamp_word {n : Nat} (hn : n ≤ 2147483648) (a : Fin n) (h : 1 ≤ n) :
    min (BitVec.ofNat 32 a.val).toInt.toNat (n - 1) = a.val := by
  have ha := a.isLt
  have e : (BitVec.ofNat 32 a.val).toInt = (a.val : Int) := by
    rw [BitVec.toInt_eq_toNat_of_lt (by rw [BitVec.toNat_ofNat]; omega), BitVec.toNat_ofNat]
    congr 1; omega
  rw [e, Int.toNat_natCast]; omega

theorem mem_three : ∀ i : Fin 3, i ∈ ([0, 1, 2] : List (Fin 3)) := by decide
theorem mem_four : ∀ i : Fin 4, i ≠ 0 → i ∈ ([1, 2, 3] : List (Fin 4)) := by decide
theorem zero_not_mem : (0 : Fin 4) ∉ ([1, 2, 3] : List (Fin 4)) := by decide

section
variable {α : Type} {A B C N R : Nat}

/-- Single elements of a rank-3 array, one for each row of the table. -/
abbrev elemDims (A B C N : Nat)
    (wf : GatherDims.WF ⟨3, ![A, B, C]⟩ ⟨2, ![N, 3]⟩ ⟨1, ![N]⟩ [] [0, 1, 2] [] [0, 1, 2] [] 1 ![1, 1, 1]) :
    GatherDims ⟨3, ![A, B, C]⟩ ⟨2, ![N, 3]⟩ ⟨1, ![N]⟩ where
  offsetDims := []
  collapsedSliceDims := [0, 1, 2]
  operandBatchingDims := []
  startIndicesBatchingDims := []
  startIndexMap := [0, 1, 2]
  indexVectorDim := 1
  sliceSizes := ![1, 1, 1]
  wf := wf

/-- Row `r` of the table holding the words of `(a, b, c)`, the gathered element is the array's at `(a, b, c)`. -/
theorem gather_elem (hA : A ≤ 2147483648) (hB : B ≤ 2147483648) (hC : C ≤ 2147483648)
    (wf : GatherDims.WF ⟨3, ![A, B, C]⟩ ⟨2, ![N, 3]⟩ ⟨1, ![N]⟩ [] [0, 1, 2] [] [0, 1, 2] [] 1 ![1, 1, 1])
    (x : (⟨3, ![A, B, C]⟩ : Shape).Idx → α) (idx : IVec ⟨2, ![N, 3]⟩ 32) (r : Fin N) (a : Fin A) (b : Fin B) (c : Fin C)
    (h0 : idx (ix2 r 0) = BitVec.ofNat 32 a.val) (h1 : idx (ix2 r 1) = BitVec.ofNat 32 b.val)
    (h2 : idx (ix2 r 2) = BitVec.ofNat 32 c.val) :
    Host.gather (elemDims A B C N wf) x idx (ix1 r) = x (ix3 a b c) := by
  unfold Host.gather
  congr 1
  funext i
  refine Fin.ext ?_
  show (elemDims A B C N wf).start (ix1 r) idx i + (elemDims A B C N wf).batchCoord (ix1 r) i
    + (elemDims A B C N wf).offCoord (ix1 r) i = _
  have hm : i ∈ (elemDims A B C N wf).startIndexMap := mem_three i
  rw [GatherDims.batchCoord_eq_zero _ _ _ List.not_mem_nil,
    GatherDims.offCoord_eq_zero _ _ _ (fun h => ((GatherDims.mem_sKept _ _).mp h).1 hm)]
  simp only [Nat.add_zero]
  unfold GatherDims.start
  rw [dif_pos hm]
  have hsi : ∀ k, (elemDims A B C N wf).siIdx (ix1 r) k = ix2 r (k : Fin 3) := by
    intro k; funext t; refine Fin.ext ?_
    match t with
    | ⟨0, _⟩ => rfl
    | ⟨1, _⟩ => rfl
  rw [hsi]
  match i with
  | ⟨0, _⟩ => exact (congrArg (fun z : BitVec 32 => min z.toInt.toNat (A - 1)) h0).trans (clamp_word hA a a.pos)
  | ⟨1, _⟩ => exact (congrArg (fun z : BitVec 32 => min z.toInt.toNat (B - 1)) h1).trans (clamp_word hB b b.pos)
  | ⟨2, _⟩ => exact (congrArg (fun z : BitVec 32 => min z.toInt.toNat (C - 1)) h2).trans (clamp_word hC c c.pos)

/-- Columns along the first axis of a rank-4 array, one for each row of the table. -/
abbrev colDims (R A B C N : Nat)
    (wf : GatherDims.WF ⟨4, ![R, A, B, C]⟩ ⟨2, ![N, 3]⟩ ⟨2, ![R, N]⟩ [0] [1, 2, 3] [] [1, 2, 3] [] 1 ![R, 1, 1, 1]) :
    GatherDims ⟨4, ![R, A, B, C]⟩ ⟨2, ![N, 3]⟩ ⟨2, ![R, N]⟩ where
  offsetDims := [0]
  collapsedSliceDims := [1, 2, 3]
  operandBatchingDims := []
  startIndicesBatchingDims := []
  startIndexMap := [1, 2, 3]
  indexVectorDim := 1
  sliceSizes := ![R, 1, 1, 1]
  wf := wf

/-- Row `r` of the table holding the words of `(a, b, c)`, the gathered element at `(p, r)` is the array's at
    `(p, a, b, c)`. -/
theorem gather_col (hA : A ≤ 2147483648) (hB : B ≤ 2147483648) (hC : C ≤ 2147483648)
    (wf : GatherDims.WF ⟨4, ![R, A, B, C]⟩ ⟨2, ![N, 3]⟩ ⟨2, ![R, N]⟩ [0] [1, 2, 3] [] [1, 2, 3] [] 1 ![R, 1, 1, 1])
    (x : (⟨4, ![R, A, B, C]⟩ : Shape).Idx → α) (idx : IVec ⟨2, ![N, 3]⟩ 32) (p : Fin R) (r : Fin N)
    (a : Fin A) (b : Fin B) (c : Fin C)
    (h0 : idx (ix2 r 0) = BitVec.ofNat 32 a.val) (h1 : idx (ix2 r 1) = BitVec.ofNat 32 b.val)
    (h2 : idx (ix2 r 2) = BitVec.ofNat 32 c.val) :
    Host.gather (colDims R A B C N wf) x idx (ix2 p r) = x (ix4 p a b c) := by
  unfold Host.gather
  congr 1
  funext i
  refine Fin.ext ?_
  show (colDims R A B C N wf).start (ix2 p r) idx i + (colDims R A B C N wf).batchCoord (ix2 p r) i
    + (colDims R A B C N wf).offCoord (ix2 p r) i = _
  rw [GatherDims.batchCoord_eq_zero _ _ _ List.not_mem_nil]
  have hsi : ∀ k, (colDims R A B C N wf).siIdx (ix2 p r) k = ix2 r (k : Fin 3) := by
    intro k; funext t; refine Fin.ext ?_
    match t with
    | ⟨0, _⟩ => rfl
    | ⟨1, _⟩ => rfl
  by_cases hm : i ∈ (colDims R A B C N wf).startIndexMap
  · rw [GatherDims.offCoord_eq_zero _ _ _ (fun h => ((GatherDims.mem_sKept _ _).mp h).1 hm)]
    simp only [Nat.add_zero]
    unfold GatherDims.start
    rw [dif_pos hm, hsi]
    match i with
    | ⟨0, _⟩ => exact absurd hm zero_not_mem
    | ⟨1, _⟩ => exact (congrArg (fun z : BitVec 32 => min z.toInt.toNat (A - 1)) h0).trans (clamp_word hA a a.pos)
    | ⟨2, _⟩ => exact (congrArg (fun z : BitVec 32 => min z.toInt.toNat (B - 1)) h1).trans (clamp_word hB b b.pos)
    | ⟨3, _⟩ => exact (congrArg (fun z : BitVec 32 => min z.toInt.toNat (C - 1)) h2).trans (clamp_word hC c c.pos)
  · have hs : (colDims R A B C N wf).start (ix2 p r) idx i = 0 := by unfold GatherDims.start; rw [dif_neg hm]
    rw [hs]
    match i with
    | ⟨0, _⟩ => exact (Nat.zero_add _).trans rfl
    | ⟨1, _⟩ => exact absurd (mem_four 1 (by decide)) hm
    | ⟨2, _⟩ => exact absurd (mem_four 2 (by decide)) hm
    | ⟨3, _⟩ => exact absurd (mem_four 3 (by decide)) hm

end

/-- An index word that is already a coordinate is not moved by the wrapping of negative indices. -/
theorem wrap_word (n : BitVec 32) {a : Nat} (ha : a < 2147483648) :
    Scalar.select (IntOp.cmpi .slt (BitVec.ofNat 32 a) 0#32) (IntOp.addi (BitVec.ofNat 32 a) n) (BitVec.ofNat 32 a)
      = BitVec.ofNat 32 a := by
  refine if_neg ?_
  have e : (BitVec.ofNat 32 a).slt 0#32 = false := by
    rw [BitVec.slt_eq_decide, BitVec.toInt_eq_toNat_of_lt (by rw [BitVec.toNat_ofNat]; omega)]
    have : ¬ (((BitVec.ofNat 32 a).toNat : Int) < (0#32).toInt) := by
      have h0 : (0#32 : BitVec 32).toInt = 0 := rfl
      rw [h0]; omega
    exact decide_eq_false this
  show ¬ BitVec.ofBool ((BitVec.ofNat 32 a).slt 0#32) = 1#1
  rw [e]; decide

end Cert.Positions

end
-- ==== Proof.Positions.lean ====
module

public import proofs.«01_k».proof.Pre_positions_drawn
public import Idealize.ShloMosaic.Lib.Pointwise
public import Idealize.ShloMosaic.Lib.ReduceAll
public import Idealize.ShloMosaic.Lib.Affine
public import Idealize.ShloMosaic.PureOps.Ideal

@[expose] public section

/-! # What the precondition says

The precondition is one bit. It being 1 says of each of the two matrices that its stored positions list, unit by unit and
output by output, distinct rows in range, and that the matrix is zero in every row not listed; and of the scale that it
is finite and not negative. -/

set_option maxRecDepth 16384

noncomputable section

namespace Cert.Positions

open Idealize.ShloMosaic

/-- The positions `pu`, `po`, `pd` are those of unit, output and row `q`, the rows are distinct, and the matrix is zero
    in the other rows. -/
structure Drawn {D K : Nat} (pu po pd : Fin 16 → Fin 512 → Fin K → BitVec 32) (M : Fin 16 → Fin D → Fin 512 → EReal)
    (q : Fin 16 → Fin 512 → Fin K → Fin D) : Prop where
  unit : ∀ u o k, pu u o k = BitVec.ofNat 32 u.val
  out : ∀ u o k, po u o k = BitVec.ofNat 32 o.val
  row : ∀ u o k, pd u o k = BitVec.ofNat 32 (q u o k).val
  distinct : ∀ u o, Function.Injective (q u o)
  zero : ∀ u d o, (∀ k, q u o k ≠ d) → M u d o = 0

/-- A fold by `and` from 1 of bits that are all 1 is 1. -/
theorem fold_andi_one {K : Nat} (f : Fin K → BitVec 1) (s : Finset (Fin K)) (h : ∀ k, f k = 1#1) :
    s.fold IntOp.andi 1#1 f = 1#1 := by
  induction s using Finset.cons_induction with
  | empty => rfl
  | cons a s ha ih => rw [Finset.fold_cons, ih, h]; rfl

theorem ofBool_true {b : Bool} (h : BitVec.ofBool b = 1#1) : b = true := by revert h; cases b <;> decide

theorem word_inj {a b : Nat} (ha : a < 2147483648) (hb : b < 2147483648) (h : BitVec.ofNat 32 a = BitVec.ofNat 32 b) :
    a = b := by
  have e := congrArg BitVec.toNat h
  rw [BitVec.toNat_ofNat, BitVec.toNat_ofNat] at e
  omega

/-- The bits of the precondition, read back. -/
theorem drawn_of {D K : Nat} (hD : D ≤ 2147483648) (hK : K ≤ 2147483648)
    (pu po pd : Fin 16 → Fin 512 → Fin K → BitVec 32) (M : Fin 16 → Fin D → Fin 512 → EReal)
    (h1 : ∀ u o k, IntOp.andi (IntOp.cmpi .eq (pu u o k) (BitVec.ofNat 32 u.val))
      (IntOp.cmpi .eq (po u o k) (BitVec.ofNat 32 o.val)) = 1#1)
    (h2 : ∀ u o k, IntOp.andi (IntOp.cmpi .sge (pd u o k) 0#32) (IntOp.cmpi .slt (pd u o k) (BitVec.ofNat 32 D)) = 1#1)
    (h3 : ∀ u o k k', IntOp.ori (IntOp.cmpi .ne (pd u o k) (pd u o k'))
      (IntOp.cmpi .eq (BitVec.ofNat 32 k.val) (BitVec.ofNat 32 k'.val)) = 1#1)
    (h4 : ∀ u d o, IntOp.ori (Ideal.cmp .oeq (M u d o) 0)
      (~~~ (Finset.univ.fold IntOp.andi 1#1 fun k : Fin K => IntOp.cmpi .ne (pd u o k) (BitVec.ofNat 32 d.val))) = 1#1) :
    ∃ q, Drawn pu po pd M q := by
  have hq : ∀ u o k, ∃ d : Fin D, pd u o k = BitVec.ofNat 32 d.val := by
    intro u o k
    obtain ⟨ha, hb⟩ := IntOp.andi_eq_one.1 (h2 u o k)
    have ha := IntOp.cmpi_sge.1 ha
    have hb := IntOp.cmpi_slt.1 hb
    have h0 : (0#32 : BitVec 32).toInt = 0 := rfl
    rw [h0] at ha
    have hn := BitVec.toInt_eq_toNat_cond (pd u o k)
    have hd := BitVec.toInt_eq_toNat_cond (BitVec.ofNat 32 D)
    rw [BitVec.toNat_ofNat] at hd
    have hl := (pd u o k).isLt
    refine ⟨⟨(pd u o k).toNat, ?_⟩, ?_⟩
    · split at hn <;> split at hd <;> omega
    · exact (BitVec.eq_of_toNat_eq (by rw [BitVec.toNat_ofNat]; exact (Nat.mod_eq_of_lt hl).symm))
  choose q hq using hq
  refine ⟨q, ⟨fun u o k => IntOp.cmpi_eq.1 (IntOp.andi_eq_one.1 (h1 u o k)).1,
    fun u o k => IntOp.cmpi_eq.1 (IntOp.andi_eq_one.1 (h1 u o k)).2, hq, ?_, ?_⟩⟩
  · intro u o k k' e
    rcases IntOp.ori_eq_one.1 (h3 u o k k') with h | h
    · exact absurd (by rw [hq, hq, e]) (IntOp.cmpi_ne.1 h)
    · have hk := k.isLt
      have hk' := k'.isLt
      exact Fin.ext (word_inj (by omega) (by omega) (IntOp.cmpi_eq.1 h))
  · intro u d o hd
    rcases IntOp.ori_eq_one.1 (h4 u d o) with h | h
    · exact of_decide_eq_true (ofBool_true h)
    · refine absurd (fold_andi_one _ _ fun k => IntOp.cmpi_ne.2 fun e => hd k ?_) (IntOp.not_eq_one.1 h)
      rw [hq] at e
      have h1 := (q u o k).isLt
      have h2 := d.isLt
      exact Fin.ext (word_inj (by omega) (by omega) e)

end Cert.Positions

namespace Cert.Pre_positions_drawn

open Idealize.ShloMosaic

/-- The side conditions of the operations the precondition is computed with. -/
instance preFacts : Facts where
  bcast_S_S16x1x1 := by decide
  reducesTo_S16x1x1_S_d0_1_2 := by decide
  h_S_ := by decide
  shapeCasts_S835584_S16x512x102 := by decide
  bcast_S_S16x512x102 := by decide
  bcast_S16x512x102_S16x512x102x102_0_1_2 := by decide
  bcast_S16x512x102_S16x512x102x102_0_1_3 := by decide
  bcast_S16x512x102_S16x512x512x102_0_2_3 := by decide
  reducesTo_S16x512x512x102_S16x512x512_d3 := by decide
  bcast_S_S16x512x512 := by decide
  reducesTo_S16x512x102_S_d0_1_2 := by decide
  reducesTo_S16x512x102x102_S_d0_1_2_3 := by decide
  reducesTo_S16x512x512_S_d0_1_2 := by decide
  shapeCasts_S417792_S16x512x51 := by decide
  bcast_S_S16x512x51 := by decide
  bcast_S16x512x51_S16x512x51x51_0_1_2 := by decide
  bcast_S16x512x51_S16x512x51x51_0_1_3 := by decide
  bcast_S16x512x51_S16x256x512x51_0_2_3 := by decide
  reducesTo_S16x256x512x51_S16x256x512_d3 := by decide
  bcast_S_S16x256x512 := by decide
  reducesTo_S16x512x51_S_d0_1_2 := by decide
  reducesTo_S16x512x51x51_S_d0_1_2_3 := by decide
  reducesTo_S16x256x512_S_d0_1_2 := by decide

open Facts

section
variable (x0 : FVec Ideal S32x16x256 .f32) (x1 : FVec Ideal S32x16x512 .f32) (x2 : FVec Ideal S16x512x512 .f32)
  (x3 : FVec Ideal S16x256x512 .f32) (x4 : FVec Ideal S16x1x512 .f32) (x5 : FVec Ideal S16x512x256 .f32)
  (x6 : FVec Ideal S16x1x1 .f32) (x7 : FVec Ideal S16x256x1 .f32) (x8 : FVec Ideal S1 .f32)
  (x9 x10 x11 : IVec S835584 32) (x12 x13 x14 : IVec S417792 32)

/-- The place of a unit, an output and a stored element in a list of positions. -/
abbrev flatW (u : Fin 16) (o : Fin 512) (k : Fin 102) : Fin 835584 := ⟨u.val * 52224 + o.val * 102 + k.val, by omega⟩
abbrev flatIn (u : Fin 16) (o : Fin 512) (k : Fin 51) : Fin 417792 := ⟨u.val * 26112 + o.val * 51 + k.val, by omega⟩

theorem cast_W (x : IVec S835584 32) (u : Fin 16) (o : Fin 512) (k : Fin 102) :
    shapeCast S16x512x102 x shapeCasts_S835584_S16x512x102 (ix3 u o k) = x (ix1 (flatW u o k)) := by
  pointwise

theorem cast_In (x : IVec S417792 32) (u : Fin 16) (o : Fin 512) (k : Fin 51) :
    shapeCast S16x512x51 x shapeCasts_S417792_S16x512x51 (ix3 u o k) = x (ix1 (flatIn u o k)) := by
  pointwise

/-- The precondition holding of the fifteen arrays, both matrices have their positions stored as drawn, and the scales are
    finite and not negative. -/
theorem decode (e : fn (F := Ideal) x0 x1 x2 x3 x4 x5 x6 x7 x8 x9 x10 x11 x12 x13 x14 = fun _ => 1#1) :
    (∃ q, Positions.Drawn (fun u o k => x9 (ix1 (flatW u o k))) (fun u o k => x10 (ix1 (flatW u o k)))
      (fun u o k => x11 (ix1 (flatW u o k))) (fun u d o => x2 (ix3 u d o)) q) ∧
    (∃ q, Positions.Drawn (fun u o k => x12 (ix1 (flatIn u o k))) (fun u o k => x13 (ix1 (flatIn u o k)))
      (fun u o k => x14 (ix1 (flatIn u o k))) (fun u d o => x3 (ix3 u d o)) q) ∧
    ∀ u : Fin 16, 0 ≤ x6 (ix3 u 0 0) ∧ x6 (ix3 u 0 0) ≠ ⊤ := by
  have h := congrFun e ix0
  simp only [fn, fn_part1, fn_part2, fn_part3, fn_part4] at h
  obtain ⟨h76, h5⟩ := IntOp.andi_eq_one.1 h
  obtain ⟨h40, h75⟩ := IntOp.andi_eq_one.1 h76
  obtain ⟨h38, h39⟩ := IntOp.andi_eq_one.1 h40
  obtain ⟨h36, h37⟩ := IntOp.andi_eq_one.1 h38
  obtain ⟨h34, h35⟩ := IntOp.andi_eq_one.1 h36
  obtain ⟨h73, h74⟩ := IntOp.andi_eq_one.1 h75
  obtain ⟨h71, h72⟩ := IntOp.andi_eq_one.1 h73
  obtain ⟨h69, h70⟩ := IntOp.andi_eq_one.1 h71
  replace h34 := Host.reduce_andi_all _ _ _ _ _ h34
  replace h35 := Host.reduce_andi_all _ _ _ _ _ h35
  replace h37 := Host.reduce_andi_all _ _ _ _ _ h37
  replace h39 := Host.reduce_andi_all _ _ _ _ _ h39
  replace h69 := Host.reduce_andi_all _ _ _ _ _ h69
  replace h70 := Host.reduce_andi_all _ _ _ _ _ h70
  replace h72 := Host.reduce_andi_all _ _ _ _ _ h72
  replace h74 := Host.reduce_andi_all _ _ _ _ _ h74
  replace h5 := Host.reduce_andi_all _ _ _ _ _ h5
  refine ⟨Positions.drawn_of (by decide) (by decide) _ _ _ _ ?_ ?_ ?_ ?_,
    Positions.drawn_of (by decide) (by decide) _ _ _ _ ?_ ?_ ?_ ?_, ?_⟩
  · intro u o k
    have h := h34 (ix3 u o k)
    pointwise at h
    exact h
  · intro u o k
    have h := h35 (ix3 u o k)
    pointwise at h
    exact h
  · intro u o k k'
    have h := h37 (ix4 u o k k')
    pointwise at h
    exact h
  · intro u d o
    have h := h39 (ix3 u d o)
    pointwise at h
    exact h
  · intro u o k
    have h := h69 (ix3 u o k)
    pointwise at h
    exact h
  · intro u o k
    have h := h70 (ix3 u o k)
    pointwise at h
    exact h
  · intro u o k k'
    have h := h72 (ix4 u o k k')
    pointwise at h
    exact h
  · intro u d o
    have h := h74 (ix3 u d o)
    pointwise at h
    exact h
  · intro u
    have h := h5 (ix3 u 0 0)
    pointwise at h
    obtain ⟨ha, hb⟩ := IntOp.andi_eq_one.1 h
    refine ⟨of_decide_eq_true (Positions.ofBool_true ha), ?_⟩
    have hb := of_decide_eq_true (Positions.ofBool_true hb)
    exact ne_of_lt hb

end

end Cert.Pre_positions_drawn

end

end
-- ==== Proof.RefValue.lean ====
module

public import proofs.«01_k».proof.Proof.Gen.ReferenceIdeal.Read
public import proofs.«01_k».proof.Proof.Spec
public import proofs.«01_k».proof.Proof.Gather
public import proofs.«01_k».proof.Proof.Positions

@[expose] public section

/-! # What the reference's arrays hold, over the extended reals, where the stored positions are the matrices' -/

set_option maxRecDepth 16384

noncomputable section

namespace Cert.ReferenceIdeal.Hand

open Idealize.ShloMosaic Cert.ReferenceIdeal Cert.ReferenceIdeal.Gen Cert.ReferenceIdeal.Read

/-- The maximum with the number a running maximum starts from is the running maximum. -/
theorem max_fold {n : Nat} (a : EReal) (z : Fin n → EReal) :
    max a (Finset.univ.fold max a z) = Finset.univ.fold max a z :=
  max_eq_right (Finset.le_fold_max a |>.2 (Or.inl le_rfl))

/-- The reference's leak rates: the softmax over the units. -/
theorem leak_apply (x0 : FVec Ideal S32x16x256 .f32) (x7 : FVec Ideal S16x256x1 .f32) (x8 : FVec Ideal S1 .f32) (b : Fin 32) (u : Fin 16) :
    val_main_v17 (F := Ideal) x0 x7 x8 (ix4 b u 0 0)
      = Spec.leak (fun b u d => x0 (ix3 b u d)) (fun u d => x7 (ix3 u d 0)) (x8 (ix1 0)) b u := by
  pointwise [val_main_v17, val_main_v16, val_main_v15, val_main_v14, val_main_cst_1, val_main_v13, val_main_v12, val_main_v11, val_main_v10,
    val_main_v9, val_main_v8, val_main_cst_0, val_main_v7, val_main_cst, val_main_v6, val_main_v5, val_main_v4, val_main_v3, val_main_v2,
    val_main_v0, Spec.leak, Spec.soft, max_fold]

/-! The tables of index words: a word of a coordinate in range is in its row as it stands. -/

theorem tab37_0 (x12 x13 x14 : IVec S417792 32) (r : Fin 417792) {a : Nat} (ha : a < 2147483648)
    (h : x12 (ix1 r) = BitVec.ofNat 32 a) : val_main_v37 (F := Ideal) x12 x13 x14 (ix2 r 0) = BitVec.ofNat 32 a := by
  have e : val_main_v37 (F := Ideal) x12 x13 x14 (ix2 r 0)
      = Scalar.select (IntOp.cmpi .slt (x12 (ix1 r)) 0#32) (IntOp.addi (x12 (ix1 r)) 16#32) (x12 (ix1 r)) := by
    pointwise [val_main_v37, val_main_v34, val_main_v23, val_main_v22, val_main_v21, val_main_v20, val_main_v19, val_main_c, val_main_c_2]
  rw [e, h]; exact Positions.wrap_word _ ha

theorem tab37_1 (x12 x13 x14 : IVec S417792 32) (r : Fin 417792) {a : Nat} (ha : a < 2147483648)
    (h : x13 (ix1 r) = BitVec.ofNat 32 a) : val_main_v37 (F := Ideal) x12 x13 x14 (ix2 r 1) = BitVec.ofNat 32 a := by
  have e : val_main_v37 (F := Ideal) x12 x13 x14 (ix2 r 1)
      = Scalar.select (IntOp.cmpi .slt (x13 (ix1 r)) 0#32) (IntOp.addi (x13 (ix1 r)) 512#32) (x13 (ix1 r)) := by
    pointwise [val_main_v37, val_main_v35, val_main_v28, val_main_v27, val_main_v26, val_main_v25, val_main_v24, val_main_c_3, val_main_c_4]
  rw [e, h]; exact Positions.wrap_word _ ha

theorem tab37_2 (x12 x13 x14 : IVec S417792 32) (r : Fin 417792) {a : Nat} (ha : a < 2147483648)
    (h : x14 (ix1 r) = BitVec.ofNat 32 a) : val_main_v37 (F := Ideal) x12 x13 x14 (ix2 r 2) = BitVec.ofNat 32 a := by
  have e : val_main_v37 (F := Ideal) x12 x13 x14 (ix2 r 2)
      = Scalar.select (IntOp.cmpi .slt (x14 (ix1 r)) 0#32) (IntOp.addi (x14 (ix1 r)) 256#32) (x14 (ix1 r)) := by
    pointwise [val_main_v37, val_main_v36, val_main_v33, val_main_v32, val_main_v31, val_main_v30, val_main_v29, val_main_c_5, val_main_c_6]
  rw [e, h]; exact Positions.wrap_word _ ha

theorem tab56_0 (x12 x14 : IVec S417792 32) (r : Fin 417792) {a : Nat} (ha : a < 2147483648)
    (h : x12 (ix1 r) = BitVec.ofNat 32 a) : val_main_v56 (F := Ideal) x12 x14 (ix2 r 0) = BitVec.ofNat 32 a := by
  have e : val_main_v56 (F := Ideal) x12 x14 (ix2 r 0)
      = Scalar.select (IntOp.cmpi .slt (x12 (ix1 r)) 0#32) (IntOp.addi (x12 (ix1 r)) 16#32) (x12 (ix1 r)) := by
    pointwise [val_main_v56, val_main_v53, val_main_v45, val_main_v44, val_main_v43, val_main_v42, val_main_v41, val_main_c_7, val_main_c_8]
  rw [e, h]; exact Positions.wrap_word _ ha

theorem tab56_1 (x12 x14 : IVec S417792 32) (r : Fin 417792) :
    val_main_v56 (F := Ideal) x12 x14 (ix2 r 1) = 0#32 := by
  pointwise [val_main_v56, val_main_v54, val_main_v52, val_main_v51, val_main_c_11, id]

theorem tab56_2 (x12 x14 : IVec S417792 32) (r : Fin 417792) {a : Nat} (ha : a < 2147483648)
    (h : x14 (ix1 r) = BitVec.ofNat 32 a) : val_main_v56 (F := Ideal) x12 x14 (ix2 r 2) = BitVec.ofNat 32 a := by
  have e : val_main_v56 (F := Ideal) x12 x14 (ix2 r 2)
      = Scalar.select (IntOp.cmpi .slt (x14 (ix1 r)) 0#32) (IntOp.addi (x14 (ix1 r)) 256#32) (x14 (ix1 r)) := by
    pointwise [val_main_v56, val_main_v55, val_main_v50, val_main_v49, val_main_v48, val_main_v47, val_main_v46, val_main_c_9, val_main_c_10]
  rw [e, h]; exact Positions.wrap_word _ ha

theorem tab86_0 (x9 x10 x11 : IVec S835584 32) (r : Fin 835584) {a : Nat} (ha : a < 2147483648)
    (h : x9 (ix1 r) = BitVec.ofNat 32 a) : val_main_v86 (F := Ideal) x9 x10 x11 (ix2 r 0) = BitVec.ofNat 32 a := by
  have e : val_main_v86 (F := Ideal) x9 x10 x11 (ix2 r 0)
      = Scalar.select (IntOp.cmpi .slt (x9 (ix1 r)) 0#32) (IntOp.addi (x9 (ix1 r)) 16#32) (x9 (ix1 r)) := by
    pointwise [val_main_v86, val_main_v83, val_main_v72, val_main_v71, val_main_v70, val_main_v69, val_main_v68, val_main_c_13, val_main_c_14]
  rw [e, h]; exact Positions.wrap_word _ ha

theorem tab86_1 (x9 x10 x11 : IVec S835584 32) (r : Fin 835584) {a : Nat} (ha : a < 2147483648)
    (h : x10 (ix1 r) = BitVec.ofNat 32 a) : val_main_v86 (F := Ideal) x9 x10 x11 (ix2 r 1) = BitVec.ofNat 32 a := by
  have e : val_main_v86 (F := Ideal) x9 x10 x11 (ix2 r 1)
      = Scalar.select (IntOp.cmpi .slt (x10 (ix1 r)) 0#32) (IntOp.addi (x10 (ix1 r)) 512#32) (x10 (ix1 r)) := by
    pointwise [val_main_v86, val_main_v84, val_main_v77, val_main_v76, val_main_v75, val_main_v74, val_main_v73, val_main_c_15, val_main_c_16]
  rw [e, h]; exact Positions.wrap_word _ ha

theorem tab86_2 (x9 x10 x11 : IVec S835584 32) (r : Fin 835584) {a : Nat} (ha : a < 2147483648)
    (h : x11 (ix1 r) = BitVec.ofNat 32 a) : val_main_v86 (F := Ideal) x9 x10 x11 (ix2 r 2) = BitVec.ofNat 32 a := by
  have e : val_main_v86 (F := Ideal) x9 x10 x11 (ix2 r 2)
      = Scalar.select (IntOp.cmpi .slt (x11 (ix1 r)) 0#32) (IntOp.addi (x11 (ix1 r)) 512#32) (x11 (ix1 r)) := by
    pointwise [val_main_v86, val_main_v85, val_main_v82, val_main_v81, val_main_v80, val_main_v79, val_main_v78, val_main_c_17, val_main_c_18]
  rw [e, h]; exact Positions.wrap_word _ ha

theorem tab105_0 (x9 x11 : IVec S835584 32) (r : Fin 835584) {a : Nat} (ha : a < 2147483648)
    (h : x9 (ix1 r) = BitVec.ofNat 32 a) : val_main_v105 (F := Ideal) x9 x11 (ix2 r 0) = BitVec.ofNat 32 a := by
  have e : val_main_v105 (F := Ideal) x9 x11 (ix2 r 0)
      = Scalar.select (IntOp.cmpi .slt (x9 (ix1 r)) 0#32) (IntOp.addi (x9 (ix1 r)) 16#32) (x9 (ix1 r)) := by
    pointwise [val_main_v105, val_main_v102, val_main_v94, val_main_v93, val_main_v92, val_main_v91, val_main_v90, val_main_c_19, val_main_c_20]
  rw [e, h]; exact Positions.wrap_word _ ha

theorem tab105_1 (x9 x11 : IVec S835584 32) (r : Fin 835584) :
    val_main_v105 (F := Ideal) x9 x11 (ix2 r 1) = 0#32 := by
  pointwise [val_main_v105, val_main_v103, val_main_v101, val_main_v100, val_main_c_23, id]

theorem tab105_2 (x9 x11 : IVec S835584 32) (r : Fin 835584) {a : Nat} (ha : a < 2147483648)
    (h : x11 (ix1 r) = BitVec.ofNat 32 a) : val_main_v105 (F := Ideal) x9 x11 (ix2 r 2) = BitVec.ofNat 32 a := by
  have e : val_main_v105 (F := Ideal) x9 x11 (ix2 r 2)
      = Scalar.select (IntOp.cmpi .slt (x11 (ix1 r)) 0#32) (IntOp.addi (x11 (ix1 r)) 512#32) (x11 (ix1 r)) := by
    pointwise [val_main_v105, val_main_v104, val_main_v99, val_main_v98, val_main_v97, val_main_v96, val_main_v95, val_main_c_21, val_main_c_22]
  rw [e, h]; exact Positions.wrap_word _ ha

/-! The gathered elements. -/

theorem gat38 (x3 : FVec Ideal S16x256x512 .f32) (x12 x13 x14 : IVec S417792 32) (r : Fin 417792) (u : Fin 16) (o : Fin 512) (d : Fin 256)
    (h0 : x12 (ix1 r) = BitVec.ofNat 32 u.val) (h1 : x13 (ix1 r) = BitVec.ofNat 32 o.val) (h2 : x14 (ix1 r) = BitVec.ofNat 32 d.val) :
    val_main_v38 (F := Ideal) x3 x12 x13 x14 (ix1 r) = x3 (ix3 u d o) := by
  refine (Positions.gather_elem (by decide) (by decide) (by decide) gather_S16x512x256_S417792x3_S417792_n_012_n_n_012_1_111.wf _ _ r u o d
    (tab37_0 _ _ _ _ (by omega) h0) (tab37_1 _ _ _ _ (by omega) h1) (tab37_2 _ _ _ _ (by omega) h2)).trans ?_
  pointwise [val_main_v18]

theorem gat57 (x0 : FVec Ideal S32x16x256 .f32) (x12 x14 : IVec S417792 32) (b : Fin 32) (r : Fin 417792) (u : Fin 16) (d : Fin 256)
    (h0 : x12 (ix1 r) = BitVec.ofNat 32 u.val) (h2 : x14 (ix1 r) = BitVec.ofNat 32 d.val) :
    val_main_v57 (F := Ideal) x0 x12 x14 (ix2 b r) = x0 (ix3 b u d) := by
  refine (Positions.gather_col (by decide) (by decide) (by decide) gather_S32x16x1x256_S417792x3_S32x417792_0_123_n_n_123_1_32111.wf _ _ b r u 0 d
    (tab56_0 _ _ _ (by omega) h0) (tab56_1 _ _ _) (tab56_2 _ _ _ (by omega) h2)).trans ?_
  pointwise [val_main_v0]

theorem gat87 (x2 : FVec Ideal S16x512x512 .f32) (x6 : FVec Ideal S16x1x1 .f32) (x9 x10 x11 : IVec S835584 32) (r : Fin 835584) (u : Fin 16)
    (o : Fin 512) (d : Fin 512)
    (h0 : x9 (ix1 r) = BitVec.ofNat 32 u.val) (h1 : x10 (ix1 r) = BitVec.ofNat 32 o.val) (h2 : x11 (ix1 r) = BitVec.ofNat 32 d.val) :
    val_main_v87 (F := Ideal) x2 x6 x9 x10 x11 (ix1 r) = x2 (ix3 u d o) * x6 (ix3 u 0 0) := by
  refine (Positions.gather_elem (by decide) (by decide) (by decide) gather_S16x512x512_S835584x3_S835584_n_012_n_n_012_1_111.wf _ _ r u o d
    (tab86_0 _ _ _ _ (by omega) h0) (tab86_1 _ _ _ _ (by omega) h1) (tab86_2 _ _ _ _ (by omega) h2)).trans ?_
  pointwise [val_main_v67, val_main_v66, val_main_v65]

theorem gat106 (x1 : FVec Ideal S32x16x512 .f32) (x9 x11 : IVec S835584 32) (b : Fin 32) (r : Fin 835584) (u : Fin 16) (d : Fin 512)
    (h0 : x9 (ix1 r) = BitVec.ofNat 32 u.val) (h2 : x11 (ix1 r) = BitVec.ofNat 32 d.val) :
    val_main_v106 (F := Ideal) x1 x9 x11 (ix2 b r) = x1 (ix3 b u d) := by
  refine (Positions.gather_col (by decide) (by decide) (by decide) gather_S32x16x1x512_S835584x3_S32x835584_0_123_n_n_123_1_32111.wf _ _ b r u 0 d
    (tab105_0 _ _ _ (by omega) h0) (tab105_1 _ _ _) (tab105_2 _ _ _ (by omega) h2)).trans ?_
  pointwise [val_main_v1]

/-! Sums over the stored elements, as sums over whole columns. -/

/-- A sum over the listed rows is the sum over all rows: the terms of the others are zero. -/
theorem sum_listed {D K : Nat} (q : Fin K → Fin D) (hq : Function.Injective q) (M v : Fin D → EReal)
    (h0 : ∀ d, (∀ k, q k ≠ d) → M d = 0) : ∑ k, M (q k) * v (q k) = ∑ d, v d * M d :=
  Fintype.sum_of_injective q hq _ _ (fun d hd => by rw [h0 d fun k e => hd ⟨k, e⟩, mul_zero]) fun k => mul_comm _ _

/-- A finite factor that is not negative goes through a sum. -/
theorem sum_scaled {D : Nat} (f : Fin D → EReal) {a : EReal} (h0 : 0 ≤ a) (h1 : a ≠ ⊤) : ∑ d, f d * a = (∑ d, f d) * a := by
  induction (Finset.univ : Finset (Fin D)) using Finset.cons_induction with
  | empty => rw [Finset.sum_empty, Finset.sum_empty, zero_mul]
  | cons d s hd ih => rw [Finset.sum_cons, Finset.sum_cons, ih, EReal.right_distrib_of_nonneg_of_ne_top h0 h1]

/-- The input's product, as the reference adds it: over the stored elements of a column. -/
theorem feed_sum (x0 : FVec Ideal S32x16x256 .f32) (x3 : FVec Ideal S16x256x512 .f32) (x12 x13 x14 : IVec S417792 32)
    (b : Fin 32) (u : Fin 16) (n : Fin 512) :
    val_main_v64 (F := Ideal) x0 x3 x12 x13 x14 (ix4 b u 0 n)
      = ∑ k : Fin 51, val_main_v38 (F := Ideal) x3 x12 x13 x14 (ix1 (Cert.Pre_positions_drawn.flatIn u n k))
          * val_main_v57 (F := Ideal) x0 x12 x14 (ix2 b (Cert.Pre_positions_drawn.flatIn u n k)) := by
  pointwise [val_main_v64, val_main_v63, val_main_cst_12, val_main_v62, val_main_v61, val_main_v60, val_main_v59, val_main_v58,
    val_main_v40, val_main_v39]

/-- The state's product, as the reference adds it. -/
theorem echo_sum (x1 : FVec Ideal S32x16x512 .f32) (x2 : FVec Ideal S16x512x512 .f32) (x6 : FVec Ideal S16x1x1 .f32)
    (x9 x10 x11 : IVec S835584 32) (b : Fin 32) (u : Fin 16) (n : Fin 512) :
    val_main_v113 (F := Ideal) x1 x2 x6 x9 x10 x11 (ix4 b u 0 n)
      = ∑ k : Fin 102, val_main_v87 (F := Ideal) x2 x6 x9 x10 x11 (ix1 (Cert.Pre_positions_drawn.flatW u n k))
          * val_main_v106 (F := Ideal) x1 x9 x11 (ix2 b (Cert.Pre_positions_drawn.flatW u n k)) := by
  pointwise [val_main_v113, val_main_v112, val_main_cst_24, val_main_v111, val_main_v110, val_main_v109, val_main_v108, val_main_v107,
    val_main_v89, val_main_v88]

section
variable (x0 : FVec Ideal S32x16x256 .f32) (x1 : FVec Ideal S32x16x512 .f32) (x2 : FVec Ideal S16x512x512 .f32)
  (x3 : FVec Ideal S16x256x512 .f32) (x4 : FVec Ideal S16x1x512 .f32) (x5 : FVec Ideal S16x512x256 .f32)
  (x6 : FVec Ideal S16x1x1 .f32) (x7 : FVec Ideal S16x256x1 .f32) (x8 : FVec Ideal S1 .f32)
  (x9 x10 x11 : IVec S835584 32) (x12 x13 x14 : IVec S417792 32)

/-- The positions stored of the input matrix are those of its non-zero elements. -/
abbrev DrawnIn (q : Fin 16 → Fin 512 → Fin 51 → Fin 256) : Prop :=
  Positions.Drawn (fun u o k => x12 (ix1 (Cert.Pre_positions_drawn.flatIn u o k)))
    (fun u o k => x13 (ix1 (Cert.Pre_positions_drawn.flatIn u o k)))
    (fun u o k => x14 (ix1 (Cert.Pre_positions_drawn.flatIn u o k))) (fun u d o => x3 (ix3 u d o)) q

/-- The positions stored of the recurrent matrix are those of its non-zero elements. -/
abbrev DrawnW (q : Fin 16 → Fin 512 → Fin 102 → Fin 512) : Prop :=
  Positions.Drawn (fun u o k => x9 (ix1 (Cert.Pre_positions_drawn.flatW u o k)))
    (fun u o k => x10 (ix1 (Cert.Pre_positions_drawn.flatW u o k)))
    (fun u o k => x11 (ix1 (Cert.Pre_positions_drawn.flatW u o k))) (fun u d o => x2 (ix3 u d o)) q

/-- The input's product over the whole column. -/
theorem feed_apply {q} (hq : DrawnIn x3 x12 x13 x14 q) (b : Fin 32) (u : Fin 16) (n : Fin 512) :
    val_main_v64 (F := Ideal) x0 x3 x12 x13 x14 (ix4 b u 0 n) = ∑ d : Fin 256, x0 (ix3 b u d) * x3 (ix3 u d n) := by
  refine (feed_sum x0 x3 x12 x13 x14 b u n).trans (Eq.trans (Finset.sum_congr rfl fun k _ => ?_)
    (sum_listed (q u n) (hq.distinct u n) (fun d => x3 (ix3 u d n)) (fun d => x0 (ix3 b u d)) (hq.zero u · n)))
  exact congrArg₂ (· * ·) (gat38 _ _ _ _ _ u n (q u n k) (hq.unit u n k) (hq.out u n k) (hq.row u n k))
    (gat57 _ _ _ b _ u (q u n k) (hq.unit u n k) (hq.row u n k))

/-- The state's product over the whole column, the scale taken out of the sum. -/
theorem echo_apply {q} (hq : DrawnW x2 x9 x10 x11 q) (b : Fin 32) (u : Fin 16) (n : Fin 512)
    (h0 : 0 ≤ x6 (ix3 u 0 0)) (h1 : x6 (ix3 u 0 0) ≠ ⊤) :
    val_main_v113 (F := Ideal) x1 x2 x6 x9 x10 x11 (ix4 b u 0 n)
      = (∑ d : Fin 512, x1 (ix3 b u d) * x2 (ix3 u d n)) * x6 (ix3 u 0 0) := by
  have e := sum_listed (q u n) (hq.distinct u n) (fun d => x2 (ix3 u d n) * x6 (ix3 u 0 0)) (fun d => x1 (ix3 b u d))
    fun d hd => by rw [show x2 (ix3 u d n) = 0 from hq.zero u d n hd, zero_mul]
  refine (echo_sum x1 x2 x6 x9 x10 x11 b u n).trans (Eq.trans (Finset.sum_congr rfl fun k _ => ?_)
    (e.trans (Eq.trans (Finset.sum_congr rfl fun d _ => ?_) (sum_scaled (fun d => x1 (ix3 b u d) * x2 (ix3 u d n)) h0 h1))))
  · exact congrArg₂ (· * ·) (gat87 _ _ _ _ _ _ u n (q u n k) (hq.unit u n k) (hq.out u n k) (hq.row u n k))
      (gat106 _ _ _ b _ u (q u n k) (hq.unit u n k) (hq.row u n k))
  · exact (mul_assoc _ _ _).symm

/-- The new state from the leak rate and the two products. -/
theorem state_read (b : Fin 32) (u : Fin 16) (n : Fin 512) :
    val_main_v125 (F := Ideal) x0 x1 x2 x3 x4 x6 x7 x8 x9 x10 x11 x12 x13 x14 (ix4 b u 0 n)
      = (1 - val_main_v17 (F := Ideal) x0 x7 x8 (ix4 b u 0 0)) * x1 (ix3 b u n)
        + val_main_v17 (F := Ideal) x0 x7 x8 (ix4 b u 0 0)
          * Ideal.tanh (val_main_v64 (F := Ideal) x0 x3 x12 x13 x14 (ix4 b u 0 n)
              + (val_main_v113 (F := Ideal) x1 x2 x6 x9 x10 x11 (ix4 b u 0 n) + x4 (ix3 u 0 n))) := by
  pointwise [val_main_v125, val_main_v124, val_main_v123, val_main_v122, val_main_v121, val_main_v120, val_main_v119, val_main_v118,
    val_main_v117, val_main_cst_25, val_main_v116, val_main_v115, val_main_v114, val_main_v1]

/-- What the precondition says of the arrays. -/
structure Good : Prop where
  feed : ∃ q, DrawnIn x3 x12 x13 x14 q
  echo : ∃ q, DrawnW x2 x9 x10 x11 q
  scale : ∀ u : Fin 16, 0 ≤ x6 (ix3 u 0 0) ∧ x6 (ix3 u 0 0) ≠ ⊤

/-- The new state, before its axis of extent one is dropped. -/
theorem state4_apply (g : Good x2 x3 x6 x9 x10 x11 x12 x13 x14) (b : Fin 32) (u : Fin 16) (n : Fin 512) :
    val_main_v125 (F := Ideal) x0 x1 x2 x3 x4 x6 x7 x8 x9 x10 x11 x12 x13 x14 (ix4 b u 0 n)
      = Spec.newState (fun b u d => x0 (ix3 b u d)) (fun b u d => x1 (ix3 b u d)) (fun u d n => x2 (ix3 u d n))
          (fun u d n => x3 (ix3 u d n)) (fun u n => x4 (ix3 u 0 n)) (fun u => x6 (ix3 u 0 0)) (fun u d => x7 (ix3 u d 0)) (x8 (ix1 0)) b u n := by
  obtain ⟨q, hq⟩ := g.feed
  obtain ⟨q', hq'⟩ := g.echo
  refine (state_read x0 x1 x2 x3 x4 x6 x7 x8 x9 x10 x11 x12 x13 x14 b u n).trans ?_
  rw [leak_apply, feed_apply x0 x3 x12 x13 x14 hq, echo_apply x1 x2 x6 x9 x10 x11 hq' b u n (g.scale u).1 (g.scale u).2]
  rfl

/-- The reference's first result. -/
theorem state_apply (g : Good x2 x3 x6 x9 x10 x11 x12 x13 x14) (b : Fin 32) (u : Fin 16) (n : Fin 512) :
    val_main_v128 (F := Ideal) x0 x1 x2 x3 x4 x6 x7 x8 x9 x10 x11 x12 x13 x14 (ix3 b u n)
      = Spec.newState (fun b u d => x0 (ix3 b u d)) (fun b u d => x1 (ix3 b u d)) (fun u d n => x2 (ix3 u d n))
          (fun u d n => x3 (ix3 u d n)) (fun u n => x4 (ix3 u 0 n)) (fun u => x6 (ix3 u 0 0)) (fun u d => x7 (ix3 u d 0)) (x8 (ix1 0)) b u n := by
  refine Eq.trans ?_ (state4_apply x0 x1 x2 x3 x4 x6 x7 x8 x9 x10 x11 x12 x13 x14 g b u n)
  pointwise [val_main_v128]

/-- The reference's second result. -/
theorem output_apply (g : Good x2 x3 x6 x9 x10 x11 x12 x13 x14) (b : Fin 32) (u : Fin 16) (o : Fin 256) :
    val_main_v129 (F := Ideal) x0 x1 x2 x3 x4 x5 x6 x7 x8 x9 x10 x11 x12 x13 x14 (ix3 b u o)
      = Spec.output (fun b u d => x0 (ix3 b u d)) (fun b u d => x1 (ix3 b u d)) (fun u d n => x2 (ix3 u d n))
          (fun u d n => x3 (ix3 u d n)) (fun u n => x4 (ix3 u 0 n)) (fun u d o => x5 (ix3 u d o)) (fun u => x6 (ix3 u 0 0))
          (fun u d => x7 (ix3 u d 0)) (x8 (ix1 0)) b u o := by
  have e : val_main_v129 (F := Ideal) x0 x1 x2 x3 x4 x5 x6 x7 x8 x9 x10 x11 x12 x13 x14 (ix3 b u o)
      = ∑ n : Fin 512, val_main_v125 (F := Ideal) x0 x1 x2 x3 x4 x6 x7 x8 x9 x10 x11 x12 x13 x14 (ix4 b u 0 n) * x5 (ix3 u n o) := by
    pointwise [val_main_v129, val_main_v127, val_main_v126]
  exact e.trans (Finset.sum_congr rfl fun n _ =>
    congrArg (· * x5 (ix3 u n o)) (state4_apply x0 x1 x2 x3 x4 x6 x7 x8 x9 x10 x11 x12 x13 x14 g b u n))

end

end Cert.ReferenceIdeal.Hand

end

end
-- ==== Proof.lean ====
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Gen.ReferenceIdeal.Read
public import proofs.«01_k».proof.Proof.Final
public import proofs.«01_k».proof.Proof.Same
public import proofs.«01_k».proof.Proof.KernelValue
public import proofs.«01_k».proof.Proof.RefValue
public import Idealize.ShloMosaic.Adequacy
public import Idealize.ShloMosaic.Init

@[expose] public section

/-! # The claims -/

set_option maxRecDepth 16384

noncomputable section

namespace Cert.Proof

open Idealize.ShloMosaic Idealize.SL.Sem

/-- The kernel on words: it ends, its arguments unchanged, every counter at zero. The two printed kernels are one
    text, so the run proved over any float instance is this one's too. -/
theorem frame_p : @Cert.quiescent_Kernel Cert.Kernel.Gen.facts := fun m ρ _ => by
  have h := Cert.KernelIdeal.Hand.frame (F := Bits) m ρ
  rw [Cert.Same.defs, Cert.Same.main]
  exact h

/-- The same of the kernel at the extended reals. -/
theorem frame_pi : Cert.quiescent_KernelIdeal := fun m ρ _ => Cert.KernelIdeal.Hand.frame m ρ

/-- The same of the reference, which has no counter. -/
theorem frame_ri : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

section
variable {m : (ℓ : Loc Cert.KernelIdeal.nD Cert.KernelIdeal.τ Cert.KernelIdeal.sig) → Buf (Elt Ideal) ℓ}

/-- The precondition, read. -/
theorem good (hpre : Cert.Pre_KernelIdeal_positions_drawn m) (c : Dev Cert.KernelIdeal.nD) :
    Cert.ReferenceIdeal.Hand.Good
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)) := by
  have h := Cert.Pre_positions_drawn.decode _ _ _ _ _ _ _ _ _ _ _ _ _ _ _ (hpre c)
  exact ⟨h.2.1, h.1, h.2.2⟩

/-- The new states of the two programs. -/
theorem state_same (hpre : Cert.Pre_KernelIdeal_positions_drawn m) (c : Dev Cert.KernelIdeal.nD) :
    Cert.ReferenceIdeal.Read.val_main_v128 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      = Cert.KernelIdeal.Hand.final9 m c := by
  funext j
  rw [show j = ix3 (j 0) (j 1) (j 2) from eq_ix3 j]
  exact (Cert.ReferenceIdeal.Hand.state_apply _ _ _ _ _ _ _ _ _ _ _ _ _ _ (good hpre c) _ _ _).trans
    (Cert.KernelIdeal.Hand.final9_apply m c _ _ _).symm

/-- The outputs of the two programs. -/
theorem output_same (hpre : Cert.Pre_KernelIdeal_positions_drawn m) (c : Dev Cert.KernelIdeal.nD) :
    Cert.ReferenceIdeal.Read.val_main_v129 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      = Cert.KernelIdeal.Hand.final10 m c := by
  funext j
  rw [show j = ix3 (j 0) (j 1) (j 2) from eq_ix3 j]
  exact (Cert.ReferenceIdeal.Hand.output_apply _ _ _ _ _ _ _ _ _ _ _ _ _ _ _ (good hpre c) _ _ _).trans
    (Cert.KernelIdeal.Hand.final10_apply m c _ _ _).symm

end

/-- Over the extended reals, under the precondition, the two programs end with the same new state and the same output. -/
theorem algebraic : Cert.algebraic_KernelIdeal_ReferenceIdeal_pre_positions_drawn := by
  intro m ρ m' ρ' hpre hagree
  refine ⟨fun c => Cert.KernelIdeal.Hand.final9 m c, fun c => Cert.KernelIdeal.Hand.final10 m c, ?_, ?_⟩
  · exact (θ_run Cert.KernelIdeal.defs _ _).mono (fun _ h => h.1) (Cert.KernelIdeal.Hand.run_values m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨a0, a1, a2, a3, a4, _, a6, a7, a8, a9, a10, a11, a12, a13, a14⟩ := hagree c
      refine (Cert.ReferenceIdeal.Read.val_main_v128_eq m' c).trans (Eq.trans ?_ (state_same hpre c))
      rw [a0, a1, a2, a3, a4, a6, a7, a8, a9, a10, a11, a12, a13, a14]
    · obtain ⟨a0, a1, a2, a3, a4, a5, a6, a7, a8, a9, a10, a11, a12, a13, a14⟩ := hagree c
      refine (Cert.ReferenceIdeal.Read.val_main_v129_eq m' c).trans (Eq.trans ?_ (output_same hpre c))
      rw [a0, a1, a2, a3, a4, a5, a6, a7, a8, a9, a10, a11, a12, a13, a14]

theorem claim : Cert.Claim :=
  ⟨Cert.Kernel.Gen.facts, Cert.KernelIdeal.Gen.facts, Cert.ReferenceIdeal.Gen.facts, Cert.Pre_positions_drawn.preFacts, frame_p,
    frame_pi, fun m ρ _ => frame_pi m ρ trivial, frame_ri, fun m ρ _ => frame_ri m ρ trivial, trivial, algebraic⟩

end Cert.Proof

end
